-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S2x2x3x128x512 : Shape := ⟨5, ![2, 2, 3, 128, 512]⟩
abbrev S2x2x3x32x512 : Shape := ⟨5, ![2, 2, 3, 32, 512]⟩
abbrev S2x2x3 : Shape := ⟨3, ![2, 2, 3]⟩
abbrev S_ : Shape := ⟨0, ![]⟩
abbrev S1x128x512 : Shape := ⟨3, ![1, 128, 512]⟩
abbrev S128x512 : Shape := ⟨2, ![128, 512]⟩
abbrev S1x1x1x128x512 : Shape := ⟨5, ![1, 1, 1, 128, 512]⟩
abbrev S1x1x1 : Shape := ⟨3, ![1, 1, 1]⟩
abbrev S32x512 : Shape := ⟨2, ![32, 512]⟩
abbrev S1x1x1x32x512 : Shape := ⟨5, ![1, 1, 1, 32, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S2x2x3x128x512, .f32⟩
  | .local _ .vmem, ⟨3, _⟩ => ⟨S2x2x3x128x512, .f32⟩
  | .local _ .vmem, ⟨4, _⟩ => ⟨S2x2x3x32x512, .f32⟩
  | .local _ .vmem, ⟨5, _⟩ => ⟨S2x2x3x32x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_18 : BitVec 32 := 1#32
  let v38 : BitVec 32 := Scalar.muli v24 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_21 : BitVec 32 := 1#32
  let v40 : BitVec 32 := Scalar.muli v28 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_24 : BitVec 32 := 1#32
  let v42 : BitVec 32 := Scalar.muli v32 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_27 : BitVec 32 := 1#32
  let v44 : BitVec 32 := Scalar.muli v36 c1_i32_27
  let v45 : BitVec 32 := Scalar.addi c0_i32_28 v44
  v45.toNat
def k0_off1 (d0 : Dev nD) (c0_i32_36 : BitVec 32) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_35 : BitVec 32 := 256#32
  let v53 : BitVec 32 := Scalar.muli v20 c256_i32_35
  let v54 : BitVec 32 := Scalar.addi v53 c0_i32_36
  let v55 : Index := Scalar.indexCast v54
  let c0_37 : Index := 0#32
  ![0, v55.toNat, 0]
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_63 : BitVec 32 := 1#32
  let v69 : BitVec 32 := Scalar.muli v24 c1_i32_63
  let v70 : BitVec 32 := Scalar.addi c0_i32_64 v69
  v70.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_81 : BitVec 32 := 1#32
  let v79 : BitVec 32 := Scalar.muli v28 c1_i32_81
  let v80 : BitVec 32 := Scalar.addi c0_i32_82 v79
  v80.toNat
def k0_off2 (d0 : Dev nD) (c0_i32_105 : BitVec 32) : Fin 3 → Nat :=
  let c0_115 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v97 : BitVec 32 := Scalar.subi v20 c0_i32_105
  let c1_i32_106 : BitVec 32 := 1#32
  let v98 : BitVec 32 := Scalar.subi v97 c1_i32_106
  let c8_i32 : BitVec 32 := 8#32
  let v99 : BitVec 32 := Scalar.addi v98 c8_i32
  let c4_i32_107 : BitVec 32 := 4#32
  let v100 : BitVec 32 := Scalar.remsi v99 c4_i32_107
  let c256_i32_108 : BitVec 32 := 256#32
  let v101 : BitVec 32 := Scalar.muli v100 c256_i32_108
  let c0_i32_109 : BitVec 32 := 0#32
  let v102 : BitVec 32 := Scalar.addi v101 c0_i32_109
  let v105 : Index := Scalar.indexCast v102
  let c0_116 : Index := 0#32
  ![0, v105.toNat, 0]
def k0_off3 (d0 : Dev nD) (c0_i32_140 : BitVec 32) : Fin 3 → Nat :=
  let c0_150 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v120 : BitVec 32 := Scalar.addi v20 c0_i32_140
  let c1_i32_141 : BitVec 32 := 1#32
  let v121 : BitVec 32 := Scalar.addi v120 c1_i32_141
  let c4_i32_142 : BitVec 32 := 4#32
  let v122 : BitVec 32 := Scalar.remsi v121 c4_i32_142
  let c256_i32_143 : BitVec 32 := 256#32
  let v123 : BitVec 32 := Scalar.muli v122 c256_i32_143
  let c128_i32_144 : BitVec 32 := 128#32
  let v124 : BitVec 32 := Scalar.addi v123 c128_i32_144
  let v127 : Index := Scalar.indexCast v124
  let c0_151 : Index := 0#32
  ![0, v127.toNat, 0]
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_169 : BitVec 32 := 1#32
  let v134 : BitVec 32 := Scalar.muli v24 c1_i32_169
  let v135 : BitVec 32 := Scalar.addi c0_i32_170 v134
  v135.toNat
def k0_dev8 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_187 : BitVec 32 := 1#32
  let v144 : BitVec 32 := Scalar.muli v28 c1_i32_187
  let v145 : BitVec 32 := Scalar.addi c0_i32_188 v144
  v145.toNat
def k0_off4 (d0 : Dev nD) (c0_i32_194 : BitVec 32) : Fin 3 → Nat :=
  let c0_195 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_193 : BitVec 32 := 256#32
  let v154 : BitVec 32 := Scalar.muli v20 c256_i32_193
  let v155 : BitVec 32 := Scalar.addi v154 c0_i32_194
  let v156 : Index := Scalar.indexCast v155
  let c512 : Index := 512#32
  ![0, v156.toNat, 512]
def k0_dev9 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_222 : BitVec 32 := 1#32
  let v170 : BitVec 32 := Scalar.muli v24 c1_i32_222
  let v171 : BitVec 32 := Scalar.addi c0_i32_223 v170
  v171.toNat
def k0_dev10 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_240 : BitVec 32 := 1#32
  let v180 : BitVec 32 := Scalar.muli v28 c1_i32_240
  let v181 : BitVec 32 := Scalar.addi c0_i32_241 v180
  v181.toNat
def k0_off5 (d0 : Dev nD) (c0_i32_334 : BitVec 32) : Fin 3 → Nat :=
  let c0_345 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v243 : BitVec 32 := Scalar.subi v20 c0_i32_334
  let c1_i32_335 : BitVec 32 := 1#32
  let v244 : BitVec 32 := Scalar.subi v243 c1_i32_335
  let c8_i32_336 : BitVec 32 := 8#32
  let v245 : BitVec 32 := Scalar.addi v244 c8_i32_336
  let c4_i32_337 : BitVec 32 := 4#32
  let v246 : BitVec 32 := Scalar.remsi v245 c4_i32_337
  let c256_i32_338 : BitVec 32 := 256#32
  let v247 : BitVec 32 := Scalar.muli v246 c256_i32_338
  let c0_i32_339 : BitVec 32 := 0#32
  let v248 : BitVec 32 := Scalar.addi v247 c0_i32_339
  let v251 : Index := Scalar.indexCast v248
  let c512_346 : Index := 512#32
  ![0, v251.toNat, 512]
def k0_off6 (d0 : Dev nD) (c0_i32_370 : BitVec 32) : Fin 3 → Nat :=
  let c0_380 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v266 : BitVec 32 := Scalar.addi v20 c0_i32_370
  let c1_i32_371 : BitVec 32 := 1#32
  let v267 : BitVec 32 := Scalar.addi v266 c1_i32_371
  let c4_i32_372 : BitVec 32 := 4#32
  let v268 : BitVec 32 := Scalar.remsi v267 c4_i32_372
  let c256_i32_373 : BitVec 32 := 256#32
  let v269 : BitVec 32 := Scalar.muli v268 c256_i32_373
  let c128_i32_374 : BitVec 32 := 128#32
  let v270 : BitVec 32 := Scalar.addi v269 c128_i32_374
  let v273 : Index := Scalar.indexCast v270
  let c512_381 : Index := 512#32
  ![0, v273.toNat, 512]
def k0_dev11 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_398 : BitVec 32 := 1#32
  let v280 : BitVec 32 := Scalar.muli v24 c1_i32_398
  let v281 : BitVec 32 := Scalar.addi c0_i32_399 v280
  v281.toNat
def k0_dev12 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_416 : BitVec 32 := 1#32
  let v290 : BitVec 32 := Scalar.muli v28 c1_i32_416
  let v291 : BitVec 32 := Scalar.addi c0_i32_417 v290
  v291.toNat
def k0_dev13 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_434 : BitVec 32 := 1#32
  let v300 : BitVec 32 := Scalar.muli v24 c1_i32_434
  let v301 : BitVec 32 := Scalar.addi c0_i32_435 v300
  v301.toNat
def k0_dev14 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_452 : BitVec 32 := 1#32
  let v310 : BitVec 32 := Scalar.muli v28 c1_i32_452
  let v311 : BitVec 32 := Scalar.addi c0_i32_453 v310
  v311.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_476 : BitVec 32 := 2#32
  let v328 : BitVec 32 := Scalar.subi v20 c2_i32_476
  let c1_i32_477 : BitVec 32 := 1#32
  let v329 : BitVec 32 := Scalar.subi v328 c1_i32_477
  let c8_i32_478 : BitVec 32 := 8#32
  let v330 : BitVec 32 := Scalar.addi v329 c8_i32_478
  let c4_i32_479 : BitVec 32 := 4#32
  let v331 : BitVec 32 := Scalar.remsi v330 c4_i32_479
  let c256_i32_480 : BitVec 32 := 256#32
  let v332 : BitVec 32 := Scalar.muli v331 c256_i32_480
  let c0_i32_481 : BitVec 32 := 0#32
  let v333 : BitVec 32 := Scalar.addi v332 c0_i32_481
  let v340 : Index := Scalar.indexCast v333
  let c0_489 : Index := 0#32
  ![v340.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_508 : BitVec 32 := 2#32
  let v350 : BitVec 32 := Scalar.addi v20 c2_i32_508
  let c1_i32_509 : BitVec 32 := 1#32
  let v351 : BitVec 32 := Scalar.addi v350 c1_i32_509
  let c4_i32_510 : BitVec 32 := 4#32
  let v352 : BitVec 32 := Scalar.remsi v351 c4_i32_510
  let c256_i32_511 : BitVec 32 := 256#32
  let v353 : BitVec 32 := Scalar.muli v352 c256_i32_511
  let c128_i32_512 : BitVec 32 := 128#32
  let v354 : BitVec 32 := Scalar.addi v353 c128_i32_512
  let v361 : Index := Scalar.indexCast v354
  let c0_520 : Index := 0#32
  ![v361.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c256_i32 : BitVec 32 := 256#32
  let v50 : BitVec 32 := Scalar.muli v47 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v408 : BitVec 32 := Scalar.muli v19 c32_i32
  let v409 : BitVec 32 := Scalar.addi v50 v408
  let v410 : Index := Scalar.indexCast v409
  let c0_592 : Index := 0#32
  ![v410.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c256_i32_34 : BitVec 32 := 256#32
  let v51 : BitVec 32 := Scalar.muli v49 c256_i32_34
  let c128_i32 : BitVec 32 := 128#32
  let v52 : BitVec 32 := Scalar.addi v51 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_598 : BitVec 32 := 32#32
  let v416 : BitVec 32 := Scalar.muli v19 c32_i32_598
  let v417 : BitVec 32 := Scalar.addi v52 v416
  let v418 : Index := Scalar.indexCast v417
  let c0_599 : Index := 0#32
  ![v418.toNat, 0]
def k0_dev15 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_617 : BitVec 32 := 1#32
  let v424 : BitVec 32 := Scalar.muli v32 c1_i32_617
  let v425 : BitVec 32 := Scalar.addi c0_i32_618 v424
  v425.toNat
def k0_dev16 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_635 : BitVec 32 := 1#32
  let v434 : BitVec 32 := Scalar.muli v36 c1_i32_635
  let v435 : BitVec 32 := Scalar.addi c0_i32_636 v434
  v435.toNat
def k0_dev17 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_653 : BitVec 32 := 1#32
  let v444 : BitVec 32 := Scalar.muli v24 c1_i32_653
  let v445 : BitVec 32 := Scalar.addi c0_i32_654 v444
  v445.toNat
def k0_dev18 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_671 : BitVec 32 := 1#32
  let v454 : BitVec 32 := Scalar.muli v28 c1_i32_671
  let v455 : BitVec 32 := Scalar.addi c0_i32_672 v454
  v455.toNat
def k0_off11 (d0 : Dev nD) (c0_i32_695 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c256_i32 : BitVec 32 := 256#32
  let v50 : BitVec 32 := Scalar.muli v47 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v472 : BitVec 32 := Scalar.subi v19 c0_i32_695
  let c1_i32_696 : BitVec 32 := 1#32
  let v473 : BitVec 32 := Scalar.subi v472 c1_i32_696
  let c8_i32_697 : BitVec 32 := 8#32
  let v474 : BitVec 32 := Scalar.addi v473 c8_i32_697
  let c4_i32_698 : BitVec 32 := 4#32
  let v475 : BitVec 32 := Scalar.remsi v474 c4_i32_698
  let c32_i32_699 : BitVec 32 := 32#32
  let v476 : BitVec 32 := Scalar.muli v475 c32_i32_699
  let v477 : BitVec 32 := Scalar.addi v50 v476
  let v480 : Index := Scalar.indexCast v477
  let c0_705 : Index := 0#32
  ![v480.toNat, 0]
def k0_off12 (d0 : Dev nD) (c0_i32_729 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c256_i32_34 : BitVec 32 := 256#32
  let v51 : BitVec 32 := Scalar.muli v49 c256_i32_34
  let c128_i32 : BitVec 32 := 128#32
  let v52 : BitVec 32 := Scalar.addi v51 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v495 : BitVec 32 := Scalar.addi v19 c0_i32_729
  let c1_i32_730 : BitVec 32 := 1#32
  let v496 : BitVec 32 := Scalar.addi v495 c1_i32_730
  let c4_i32_731 : BitVec 32 := 4#32
  let v497 : BitVec 32 := Scalar.remsi v496 c4_i32_731
  let c32_i32_732 : BitVec 32 := 32#32
  let v498 : BitVec 32 := Scalar.muli v497 c32_i32_732
  let v499 : BitVec 32 := Scalar.addi v52 v498
  let v502 : Index := Scalar.indexCast v499
  let c0_738 : Index := 0#32
  ![v502.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_762 : BitVec 32 := 2#32
  let v517 : BitVec 32 := Scalar.subi v20 c2_i32_762
  let c1_i32_763 : BitVec 32 := 1#32
  let v518 : BitVec 32 := Scalar.subi v517 c1_i32_763
  let c8_i32_764 : BitVec 32 := 8#32
  let v519 : BitVec 32 := Scalar.addi v518 c8_i32_764
  let c4_i32_765 : BitVec 32 := 4#32
  let v520 : BitVec 32 := Scalar.remsi v519 c4_i32_765
  let c256_i32_766 : BitVec 32 := 256#32
  let v521 : BitVec 32 := Scalar.muli v520 c256_i32_766
  let c0_i32_767 : BitVec 32 := 0#32
  let v522 : BitVec 32 := Scalar.addi v521 c0_i32_767
  let v529 : Index := Scalar.indexCast v522
  let c512_775 : Index := 512#32
  ![v529.toNat, 512]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_794 : BitVec 32 := 2#32
  let v539 : BitVec 32 := Scalar.addi v20 c2_i32_794
  let c1_i32_795 : BitVec 32 := 1#32
  let v540 : BitVec 32 := Scalar.addi v539 c1_i32_795
  let c4_i32_796 : BitVec 32 := 4#32
  let v541 : BitVec 32 := Scalar.remsi v540 c4_i32_796
  let c256_i32_797 : BitVec 32 := 256#32
  let v542 : BitVec 32 := Scalar.muli v541 c256_i32_797
  let c128_i32_798 : BitVec 32 := 128#32
  let v543 : BitVec 32 := Scalar.addi v542 c128_i32_798
  let v550 : Index := Scalar.indexCast v543
  let c512_806 : Index := 512#32
  ![v550.toNat, 512]
def k0_dev19 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_819 : BitVec 32 := 1#32
  let v552 : BitVec 32 := Scalar.muli v32 c1_i32_819
  let v553 : BitVec 32 := Scalar.addi c0_i32_820 v552
  v553.toNat
def k0_dev20 (d0 : Dev nD) : Nat :=
  let c0_i32_838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_837 : BitVec 32 := 1#32
  let v562 : BitVec 32 := Scalar.muli v36 c1_i32_837
  let v563 : BitVec 32 := Scalar.addi c0_i32_838 v562
  v563.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c256_i32 : BitVec 32 := 256#32
  let v50 : BitVec 32 := Scalar.muli v47 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_843 : BitVec 32 := 32#32
  let v572 : BitVec 32 := Scalar.muli v19 c32_i32_843
  let v573 : BitVec 32 := Scalar.addi v50 v572
  let v574 : Index := Scalar.indexCast v573
  let c512_844 : Index := 512#32
  ![v574.toNat, 512]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c256_i32_34 : BitVec 32 := 256#32
  let v51 : BitVec 32 := Scalar.muli v49 c256_i32_34
  let c128_i32 : BitVec 32 := 128#32
  let v52 : BitVec 32 := Scalar.addi v51 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_850 : BitVec 32 := 32#32
  let v580 : BitVec 32 := Scalar.muli v19 c32_i32_850
  let v581 : BitVec 32 := Scalar.addi v52 v580
  let v582 : Index := Scalar.indexCast v581
  let c512_851 : Index := 512#32
  ![v582.toNat, 512]
def k0_dev21 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_869 : BitVec 32 := 1#32
  let v588 : BitVec 32 := Scalar.muli v32 c1_i32_869
  let v589 : BitVec 32 := Scalar.addi c0_i32_870 v588
  v589.toNat
def k0_dev22 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_887 : BitVec 32 := 1#32
  let v598 : BitVec 32 := Scalar.muli v36 c1_i32_887
  let v599 : BitVec 32 := Scalar.addi c0_i32_888 v598
  v599.toNat
def k0_off17 (d0 : Dev nD) (c0_i32_978 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c256_i32 : BitVec 32 := 256#32
  let v50 : BitVec 32 := Scalar.muli v47 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v661 : BitVec 32 := Scalar.subi v19 c0_i32_978
  let c1_i32_979 : BitVec 32 := 1#32
  let v662 : BitVec 32 := Scalar.subi v661 c1_i32_979
  let c8_i32_980 : BitVec 32 := 8#32
  let v663 : BitVec 32 := Scalar.addi v662 c8_i32_980
  let c4_i32_981 : BitVec 32 := 4#32
  let v664 : BitVec 32 := Scalar.remsi v663 c4_i32_981
  let c32_i32_982 : BitVec 32 := 32#32
  let v665 : BitVec 32 := Scalar.muli v664 c32_i32_982
  let v666 : BitVec 32 := Scalar.addi v50 v665
  let v669 : Index := Scalar.indexCast v666
  let c512_988 : Index := 512#32
  ![v669.toNat, 512]
def k0_off18 (d0 : Dev nD) (c0_i32_1012 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c256_i32_34 : BitVec 32 := 256#32
  let v51 : BitVec 32 := Scalar.muli v49 c256_i32_34
  let c128_i32 : BitVec 32 := 128#32
  let v52 : BitVec 32 := Scalar.addi v51 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v684 : BitVec 32 := Scalar.addi v19 c0_i32_1012
  let c1_i32_1013 : BitVec 32 := 1#32
  let v685 : BitVec 32 := Scalar.addi v684 c1_i32_1013
  let c4_i32_1014 : BitVec 32 := 4#32
  let v686 : BitVec 32 := Scalar.remsi v685 c4_i32_1014
  let c32_i32_1015 : BitVec 32 := 32#32
  let v687 : BitVec 32 := Scalar.muli v686 c32_i32_1015
  let v688 : BitVec 32 := Scalar.addi v52 v687
  let v691 : Index := Scalar.indexCast v688
  let c512_1021 : Index := 512#32
  ![v691.toNat, 512]
def k0_dev23 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1039 : BitVec 32 := 1#32
  let v698 : BitVec 32 := Scalar.muli v32 c1_i32_1039
  let v699 : BitVec 32 := Scalar.addi c0_i32_1040 v698
  v699.toNat
def k0_dev24 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1057 : BitVec 32 := 1#32
  let v708 : BitVec 32 := Scalar.muli v36 c1_i32_1057
  let v709 : BitVec 32 := Scalar.addi c0_i32_1058 v708
  v709.toNat
def k0_dev25 (d0 : Dev nD) : Nat :=
  let c0_i32_1076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1075 : BitVec 32 := 1#32
  let v718 : BitVec 32 := Scalar.muli v32 c1_i32_1075
  let v719 : BitVec 32 := Scalar.addi c0_i32_1076 v718
  v719.toNat
def k0_dev26 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1093 : BitVec 32 := 1#32
  let v728 : BitVec 32 := Scalar.muli v36 c1_i32_1093
  let v729 : BitVec 32 := Scalar.addi c0_i32_1094 v728
  v729.toNat
def k0_off19 (d0 : Dev nD) (c0_i32_1226 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c256_i32 : BitVec 32 := 256#32
  let v50 : BitVec 32 := Scalar.muli v47 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1225 : BitVec 32 := 1#32
  let v826 : BitVec 32 := Scalar.addi v19 c1_i32_1225
  let v827 : BitVec 32 := Scalar.subi v826 c0_i32_1226
  let c8_i32_1227 : BitVec 32 := 8#32
  let v828 : BitVec 32 := Scalar.addi v827 c8_i32_1227
  let c4_i32_1228 : BitVec 32 := 4#32
  let v829 : BitVec 32 := Scalar.remsi v828 c4_i32_1228
  let c32_i32_1229 : BitVec 32 := 32#32
  let v830 : BitVec 32 := Scalar.muli v829 c32_i32_1229
  let v831 : BitVec 32 := Scalar.addi v50 v830
  let c0_i32_1238 : BitVec 32 := 0#32
  ![v831.toNat, 0]
def k0_dev27 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1236 : BitVec 32 := 1#32
  let v832 : BitVec 32 := Scalar.muli v32 c1_i32_1236
  let v833 : BitVec 32 := Scalar.addi c0_i32_1237 v832
  v833.toNat
def k0_off20 (d0 : Dev nD) (c0_i32_1241 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c256_i32_34 : BitVec 32 := 256#32
  let v51 : BitVec 32 := Scalar.muli v49 c256_i32_34
  let c128_i32 : BitVec 32 := 128#32
  let v52 : BitVec 32 := Scalar.addi v51 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1240 : BitVec 32 := 3#32
  let v840 : BitVec 32 := Scalar.addi v19 c3_i32_1240
  let v841 : BitVec 32 := Scalar.addi v840 c0_i32_1241
  let c4_i32_1242 : BitVec 32 := 4#32
  let v842 : BitVec 32 := Scalar.remsi v841 c4_i32_1242
  let c32_i32_1243 : BitVec 32 := 32#32
  let v843 : BitVec 32 := Scalar.muli v842 c32_i32_1243
  let v844 : BitVec 32 := Scalar.addi v52 v843
  let c0_i32_1252 : BitVec 32 := 0#32
  ![v844.toNat, 0]
def k0_dev28 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1250 : BitVec 32 := 1#32
  let v845 : BitVec 32 := Scalar.muli v36 c1_i32_1250
  let v846 : BitVec 32 := Scalar.addi c0_i32_1251 v845
  v846.toNat
def k0_dev29 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1266 : BitVec 32 := 1#32
  let v853 : BitVec 32 := Scalar.muli v32 c1_i32_1266
  let v854 : BitVec 32 := Scalar.addi c0_i32_1267 v853
  v854.toNat
def k0_dev30 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1284 : BitVec 32 := 1#32
  let v863 : BitVec 32 := Scalar.muli v36 c1_i32_1284
  let v864 : BitVec 32 := Scalar.addi c0_i32_1285 v863
  v864.toNat
def k0_dev31 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1380 : BitVec 32 := 1#32
  let v934 : BitVec 32 := Scalar.muli v32 c1_i32_1380
  let v935 : BitVec 32 := Scalar.addi c0_i32_1381 v934
  v935.toNat
def k0_dev32 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1394 : BitVec 32 := 1#32
  let v947 : BitVec 32 := Scalar.muli v36 c1_i32_1394
  let v948 : BitVec 32 := Scalar.addi c0_i32_1395 v947
  v948.toNat
def k0_off21 (d0 : Dev nD) (c0_i32_1399 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_30 : BitVec 32 := 1#32
  let v46 : BitVec 32 := Scalar.addi v20 c1_i32_30
  let c4_i32_31 : BitVec 32 := 4#32
  let v47 : BitVec 32 := Scalar.remsi v46 c4_i32_31
  let c256_i32 : BitVec 32 := 256#32
  let v50 : BitVec 32 := Scalar.muli v47 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1398 : BitVec 32 := 1#32
  let v955 : BitVec 32 := Scalar.addi v19 c1_i32_1398
  let v956 : BitVec 32 := Scalar.subi v955 c0_i32_1399
  let c8_i32_1400 : BitVec 32 := 8#32
  let v957 : BitVec 32 := Scalar.addi v956 c8_i32_1400
  let c4_i32_1401 : BitVec 32 := 4#32
  let v958 : BitVec 32 := Scalar.remsi v957 c4_i32_1401
  let c32_i32_1402 : BitVec 32 := 32#32
  let v959 : BitVec 32 := Scalar.muli v958 c32_i32_1402
  let v960 : BitVec 32 := Scalar.addi v50 v959
  let c512_i32 : BitVec 32 := 512#32
  ![v960.toNat, 512]
def k0_dev33 (d0 : Dev nD) : Nat :=
  let c0_i32_1410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1409 : BitVec 32 := 1#32
  let v961 : BitVec 32 := Scalar.muli v32 c1_i32_1409
  let v962 : BitVec 32 := Scalar.addi c0_i32_1410 v961
  v962.toNat
def k0_off22 (d0 : Dev nD) (c0_i32_1413 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_32 : BitVec 32 := 3#32
  let v48 : BitVec 32 := Scalar.addi v20 c3_i32_32
  let c4_i32_33 : BitVec 32 := 4#32
  let v49 : BitVec 32 := Scalar.remsi v48 c4_i32_33
  let c256_i32_34 : BitVec 32 := 256#32
  let v51 : BitVec 32 := Scalar.muli v49 c256_i32_34
  let c128_i32 : BitVec 32 := 128#32
  let v52 : BitVec 32 := Scalar.addi v51 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1412 : BitVec 32 := 3#32
  let v969 : BitVec 32 := Scalar.addi v19 c3_i32_1412
  let v970 : BitVec 32 := Scalar.addi v969 c0_i32_1413
  let c4_i32_1414 : BitVec 32 := 4#32
  let v971 : BitVec 32 := Scalar.remsi v970 c4_i32_1414
  let c32_i32_1415 : BitVec 32 := 32#32
  let v972 : BitVec 32 := Scalar.muli v971 c32_i32_1415
  let v973 : BitVec 32 := Scalar.addi v52 v972
  let c512_i32_1424 : BitVec 32 := 512#32
  ![v973.toNat, 512]
def k0_dev34 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1422 : BitVec 32 := 1#32
  let v974 : BitVec 32 := Scalar.muli v36 c1_i32_1422
  let v975 : BitVec 32 := Scalar.addi c0_i32_1423 v974
  v975.toNat
def k0_dev35 (d0 : Dev nD) : Nat :=
  let c0_i32_1478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1477 : BitVec 32 := 1#32
  let v1012 : BitVec 32 := Scalar.muli v32 c1_i32_1477
  let v1013 : BitVec 32 := Scalar.addi c0_i32_1478 v1012
  v1013.toNat
def k0_dev36 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1491 : BitVec 32 := 1#32
  let v1025 : BitVec 32 := Scalar.muli v36 c1_i32_1491
  let v1026 : BitVec 32 := Scalar.addi c0_i32_1492 v1025
  v1026.toNat
def k0_dev37 (d0 : Dev nD) : Nat :=
  let c0_i32_1507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1506 : BitVec 32 := 1#32
  let v1039 : BitVec 32 := Scalar.muli v32 c1_i32_1506
  let v1040 : BitVec 32 := Scalar.addi c0_i32_1507 v1039
  v1040.toNat
def k0_dev38 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1520 : BitVec 32 := 1#32
  let v1052 : BitVec 32 := Scalar.muli v36 c1_i32_1520
  let v1053 : BitVec 32 := Scalar.addi c0_i32_1521 v1052
  v1053.toNat
def k0_off23 (d0 : Dev nD) (c0_i32_1565 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1564 : BitVec 32 := 1#32
  let v1084 : BitVec 32 := Scalar.addi v20 c1_i32_1564
  let v1085 : BitVec 32 := Scalar.subi v1084 c0_i32_1565
  let c8_i32_1566 : BitVec 32 := 8#32
  let v1086 : BitVec 32 := Scalar.addi v1085 c8_i32_1566
  let c4_i32_1567 : BitVec 32 := 4#32
  let v1087 : BitVec 32 := Scalar.remsi v1086 c4_i32_1567
  let c256_i32_1568 : BitVec 32 := 256#32
  let v1088 : BitVec 32 := Scalar.muli v1087 c256_i32_1568
  let c0_i32_1569 : BitVec 32 := 0#32
  let v1089 : BitVec 32 := Scalar.addi v1088 c0_i32_1569
  let c0_i32_1578 : BitVec 32 := 0#32
  ![v1089.toNat, 0]
def k0_dev39 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1576 : BitVec 32 := 1#32
  let v1090 : BitVec 32 := Scalar.muli v24 c1_i32_1576
  let v1091 : BitVec 32 := Scalar.addi c0_i32_1577 v1090
  v1091.toNat
def k0_off24 (d0 : Dev nD) (c0_i32_1581 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_1580 : BitVec 32 := 3#32
  let v1098 : BitVec 32 := Scalar.addi v20 c3_i32_1580
  let v1099 : BitVec 32 := Scalar.addi v1098 c0_i32_1581
  let c4_i32_1582 : BitVec 32 := 4#32
  let v1100 : BitVec 32 := Scalar.remsi v1099 c4_i32_1582
  let c256_i32_1583 : BitVec 32 := 256#32
  let v1101 : BitVec 32 := Scalar.muli v1100 c256_i32_1583
  let c128_i32_1584 : BitVec 32 := 128#32
  let v1102 : BitVec 32 := Scalar.addi v1101 c128_i32_1584
  let c0_i32_1593 : BitVec 32 := 0#32
  ![v1102.toNat, 0]
def k0_dev40 (d0 : Dev nD) : Nat :=
  let c0_i32_1592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1591 : BitVec 32 := 1#32
  let v1103 : BitVec 32 := Scalar.muli v28 c1_i32_1591
  let v1104 : BitVec 32 := Scalar.addi c0_i32_1592 v1103
  v1104.toNat
def k0_dev41 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_1606 : BitVec 32 := 1#32
  let v1117 : BitVec 32 := Scalar.muli v32 c1_i32_1606
  let v1118 : BitVec 32 := Scalar.addi c0_i32_1607 v1117
  v1118.toNat
def k0_dev42 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_1620 : BitVec 32 := 1#32
  let v1130 : BitVec 32 := Scalar.muli v36 c1_i32_1620
  let v1131 : BitVec 32 := Scalar.addi c0_i32_1621 v1130
  v1131.toNat
def k0_dev43 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1676 : BitVec 32 := 1#32
  let v1168 : BitVec 32 := Scalar.muli v24 c1_i32_1676
  let v1169 : BitVec 32 := Scalar.addi c0_i32_1677 v1168
  v1169.toNat
def k0_dev44 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1691 : BitVec 32 := 1#32
  let v1181 : BitVec 32 := Scalar.muli v28 c1_i32_1691
  let v1182 : BitVec 32 := Scalar.addi c0_i32_1692 v1181
  v1182.toNat
def k0_off25 (d0 : Dev nD) (c0_i32_1696 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_1695 : BitVec 32 := 1#32
  let v1189 : BitVec 32 := Scalar.addi v20 c1_i32_1695
  let v1190 : BitVec 32 := Scalar.subi v1189 c0_i32_1696
  let c8_i32_1697 : BitVec 32 := 8#32
  let v1191 : BitVec 32 := Scalar.addi v1190 c8_i32_1697
  let c4_i32_1698 : BitVec 32 := 4#32
  let v1192 : BitVec 32 := Scalar.remsi v1191 c4_i32_1698
  let c256_i32_1699 : BitVec 32 := 256#32
  let v1193 : BitVec 32 := Scalar.muli v1192 c256_i32_1699
  let c0_i32_1700 : BitVec 32 := 0#32
  let v1194 : BitVec 32 := Scalar.addi v1193 c0_i32_1700
  let c512_i32_1709 : BitVec 32 := 512#32
  ![v1194.toNat, 512]
def k0_dev45 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1707 : BitVec 32 := 1#32
  let v1195 : BitVec 32 := Scalar.muli v24 c1_i32_1707
  let v1196 : BitVec 32 := Scalar.addi c0_i32_1708 v1195
  v1196.toNat
def k0_off26 (d0 : Dev nD) (c0_i32_1712 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_1711 : BitVec 32 := 3#32
  let v1203 : BitVec 32 := Scalar.addi v20 c3_i32_1711
  let v1204 : BitVec 32 := Scalar.addi v1203 c0_i32_1712
  let c4_i32_1713 : BitVec 32 := 4#32
  let v1205 : BitVec 32 := Scalar.remsi v1204 c4_i32_1713
  let c256_i32_1714 : BitVec 32 := 256#32
  let v1206 : BitVec 32 := Scalar.muli v1205 c256_i32_1714
  let c128_i32_1715 : BitVec 32 := 128#32
  let v1207 : BitVec 32 := Scalar.addi v1206 c128_i32_1715
  let c512_i32_1724 : BitVec 32 := 512#32
  ![v1207.toNat, 512]
def k0_dev46 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1722 : BitVec 32 := 1#32
  let v1208 : BitVec 32 := Scalar.muli v28 c1_i32_1722
  let v1209 : BitVec 32 := Scalar.addi c0_i32_1723 v1208
  v1209.toNat
def k0_dev47 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1778 : BitVec 32 := 1#32
  let v1246 : BitVec 32 := Scalar.muli v24 c1_i32_1778
  let v1247 : BitVec 32 := Scalar.addi c0_i32_1779 v1246
  v1247.toNat
def k0_dev48 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1793 : BitVec 32 := 1#32
  let v1259 : BitVec 32 := Scalar.muli v28 c1_i32_1793
  let v1260 : BitVec 32 := Scalar.addi c0_i32_1794 v1259
  v1260.toNat
def k0_dev49 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1809 : BitVec 32 := 1#32
  let v1273 : BitVec 32 := Scalar.muli v24 c1_i32_1809
  let v1274 : BitVec 32 := Scalar.addi c0_i32_1810 v1273
  v1274.toNat
def k0_dev50 (d0 : Dev nD) : Nat :=
  let c0_i32_1825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1824 : BitVec 32 := 1#32
  let v1286 : BitVec 32 := Scalar.muli v28 c1_i32_1824
  let v1287 : BitVec 32 := Scalar.addi c0_i32_1825 v1286
  v1287.toNat
def k0_dev51 (d0 : Dev nD) : Nat :=
  let c0_i32_1881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1880 : BitVec 32 := 1#32
  let v1324 : BitVec 32 := Scalar.muli v24 c1_i32_1880
  let v1325 : BitVec 32 := Scalar.addi c0_i32_1881 v1324
  v1325.toNat
def k0_dev52 (d0 : Dev nD) : Nat :=
  let c0_i32_1896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1895 : BitVec 32 := 1#32
  let v1337 : BitVec 32 := Scalar.muli v28 c1_i32_1895
  let v1338 : BitVec 32 := Scalar.addi c0_i32_1896 v1337
  v1338.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x1024x1024 : Shape := ⟨3, ![16, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S_, .f32⟩
  | .hbm, ⟨2, _⟩ => ⟨S1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The device mesh

The sixteen devices form four planes of four: device `c` stands at place `c % 4` of plane `c / 4`. This module defines a
device's neighbours inside its plane and across the planes, the row blocks and row chunks of the result by which the
transfers proceed, and puts the offsets and device numbers that the program computes into that form.
-/
module

public import proofs.«01_k».proof.Proof.Gen.KernelIdeal

@[expose] public section

set_option maxRecDepth 4000

namespace Cert.KernelIdeal.AllReduce

open Idealize.ShloMosaic Cert.KernelIdeal.Gen

/-- The step of direction `d` around a ring of four: forward for `0`, backward for `1`. -/
def sg (d : ℕ) : ℕ := if d = 0 then 1 else 3
/-- The step against direction `d`. -/
def rs (d : ℕ) : ℕ := if d = 0 then 3 else 1

/-- The next device in the plane, in direction `d`. -/
def tgtP (d : ℕ) (c : Dev nD) : Dev nD := ⟨4 * (c.val / 4) + (c.val + sg d) % 4, by have h : c.val < 16 := c.isLt; show _ < 16; omega⟩
/-- The device in the plane that sends to `c` in direction `d`. -/
def backP (d : ℕ) (c : Dev nD) : Dev nD := ⟨4 * (c.val / 4) + (c.val + rs d) % 4, by have h : c.val < 16 := c.isLt; show _ < 16; omega⟩
/-- The device at the same place of the next plane, in direction `d`. -/
def tgtZ (d : ℕ) (c : Dev nD) : Dev nD := ⟨4 * ((c.val / 4 + sg d) % 4) + c.val % 4, by have h : c.val < 16 := c.isLt; show _ < 16; omega⟩
/-- The device at the same place of the plane that sends to `c` in direction `d`. -/
def backZ (d : ℕ) (c : Dev nD) : Dev nD := ⟨4 * ((c.val / 4 + rs d) % 4) + c.val % 4, by have h : c.val < 16 := c.isLt; show _ < 16; omega⟩

/-- The first row of half block number `h` of device `c` in direction `d`, counted from the device's own place. -/
def blkRow (d : ℕ) (c : Dev nD) (h : ℕ) : ℕ := 256 * ((c.val + h * rs d) % 4) + 128 * d
/-- The first row of chunk number `k` of the half block that device `c` reduces in direction `d`, counted from its own plane. -/
def chRow (d : ℕ) (c : Dev nD) (k : ℕ) : ℕ := blkRow d c 3 + 32 * ((c.val / 4 + k * rs d) % 4)

theorem sg_cases (d : ℕ) : (sg d = 1 ∧ rs d = 3) ∨ (sg d = 3 ∧ rs d = 1) := by
  unfold sg rs; split <;> simp
theorem backP_tgtP (d : ℕ) (c : Dev nD) : backP d (tgtP d c) = c := by
  apply Fin.ext; have h : c.val < 16 := c.isLt; simp only [backP, tgtP]; rcases sg_cases d with ⟨h1, h2⟩ | ⟨h1, h2⟩ <;> rw [h1, h2] <;> omega
theorem tgtP_backP (d : ℕ) (c : Dev nD) : tgtP d (backP d c) = c := by
  apply Fin.ext; have h : c.val < 16 := c.isLt; simp only [backP, tgtP]; rcases sg_cases d with ⟨h1, h2⟩ | ⟨h1, h2⟩ <;> rw [h1, h2] <;> omega
theorem backZ_tgtZ (d : ℕ) (c : Dev nD) : backZ d (tgtZ d c) = c := by
  apply Fin.ext; have h : c.val < 16 := c.isLt; simp only [backZ, tgtZ]; rcases sg_cases d with ⟨h1, h2⟩ | ⟨h1, h2⟩ <;> rw [h1, h2] <;> omega
theorem tgtZ_backZ (d : ℕ) (c : Dev nD) : tgtZ d (backZ d c) = c := by
  apply Fin.ext; have h : c.val < 16 := c.isLt; simp only [backZ, tgtZ]; rcases sg_cases d with ⟨h1, h2⟩ | ⟨h1, h2⟩ <;> rw [h1, h2] <;> omega
/-- Three steps back around the ring of planes is one step forward. -/
theorem backZ_three (d : ℕ) (c : Dev nD) : backZ d (backZ d (backZ d c)) = tgtZ d c := by
  apply Fin.ext; have h : c.val < 16 := c.isLt; simp only [backZ, tgtZ]; rcases sg_cases d with ⟨h1, h2⟩ | ⟨h1, h2⟩ <;> rw [h1, h2] <;> omega

/-- Half block `h` of a device is half block `h + 1` of the device it sends to. -/
theorem blkRow_tgtP (d : ℕ) (c : Dev nD) (h : ℕ) : blkRow d (tgtP d c) (h + 1) = blkRow d c h := by
  have hc : c.val < 16 := c.isLt; simp only [blkRow, tgtP]; rcases sg_cases d with ⟨h1, h2⟩ | ⟨h1, h2⟩ <;> rw [h1, h2] <;> omega
theorem blkRow_tgtZ (d : ℕ) (c : Dev nD) (h : ℕ) : blkRow d (tgtZ d c) h = blkRow d c h := by
  have hc : c.val < 16 := c.isLt; simp only [blkRow, tgtZ]; rcases sg_cases d with ⟨h1, h2⟩ | ⟨h1, h2⟩ <;> rw [h1, h2] <;> omega
theorem blkRow_backP (d : ℕ) (c : Dev nD) (h : ℕ) : blkRow d (backP d c) h = blkRow d c (h + 1) := by
  have := blkRow_tgtP d (backP d c) h; rwa [tgtP_backP, eq_comm] at this
theorem blkRow_backZ (d : ℕ) (c : Dev nD) (h : ℕ) : blkRow d (backZ d c) h = blkRow d c h := by
  have := blkRow_tgtZ d (backZ d c) h; rwa [tgtZ_backZ, eq_comm] at this
/-- Chunk `k` of a device is chunk `k + 1` of the device it sends to. -/
theorem chRow_tgtZ (d : ℕ) (c : Dev nD) (k : ℕ) : chRow d (tgtZ d c) (k + 1) = chRow d c k := by
  unfold chRow; rw [blkRow_tgtZ]; have hc : c.val < 16 := c.isLt; simp only [tgtZ]; rcases sg_cases d with ⟨h1, h2⟩ | ⟨h1, h2⟩ <;> rw [h1, h2] <;> omega
theorem chRow_backZ (d : ℕ) (c : Dev nD) (k : ℕ) : chRow d (backZ d c) k = chRow d c (k + 1) := by
  have := chRow_tgtZ d (backZ d c) k; rwa [tgtZ_backZ, eq_comm] at this
theorem blkRow_add_four (d : ℕ) (c : Dev nD) (h : ℕ) : blkRow d c (h + 4) = blkRow d c h := by
  simp only [blkRow]; rcases sg_cases d with ⟨_, h2⟩ | ⟨_, h2⟩ <;> rw [h2] <;> omega
theorem chRow_add_four (d : ℕ) (c : Dev nD) (h : ℕ) : chRow d c (h + 4) = chRow d c h := by
  simp only [chRow]; rcases sg_cases d with ⟨_, h2⟩ | ⟨_, h2⟩ <;> rw [h2] <;> omega

/-! ### The program's offsets and device numbers -/

theorem off1_0_at : ∀ c : Dev nD, k0_off1 c 0#32 = ![0, blkRow 0 c 0, 0] := by decide +kernel
theorem off4_0_at : ∀ c : Dev nD, k0_off4 c 0#32 = ![0, blkRow 0 c 0, 512] := by decide +kernel
theorem off1_1_at : ∀ c : Dev nD, k0_off1 c 128#32 = ![0, blkRow 1 c 0, 0] := by decide +kernel
theorem off4_1_at : ∀ c : Dev nD, k0_off4 c 128#32 = ![0, blkRow 1 c 0, 512] := by decide +kernel
theorem off2_0_at : ∀ c : Dev nD, k0_off2 c 0#32 = ![0, blkRow 0 c 1, 0] := by decide +kernel
theorem off2_1_at : ∀ c : Dev nD, k0_off2 c 1#32 = ![0, blkRow 0 c 2, 0] := by decide +kernel
theorem off2_2_at : ∀ c : Dev nD, k0_off2 c 2#32 = ![0, blkRow 0 c 3, 0] := by decide +kernel
theorem off5_0_at : ∀ c : Dev nD, k0_off5 c 0#32 = ![0, blkRow 0 c 1, 512] := by decide +kernel
theorem off5_1_at : ∀ c : Dev nD, k0_off5 c 1#32 = ![0, blkRow 0 c 2, 512] := by decide +kernel
theorem off5_2_at : ∀ c : Dev nD, k0_off5 c 2#32 = ![0, blkRow 0 c 3, 512] := by decide +kernel
theorem off7_at : ∀ c : Dev nD, k0_off7 c = ![blkRow 0 c 3, 0] := by decide +kernel
theorem off13_at : ∀ c : Dev nD, k0_off13 c = ![blkRow 0 c 3, 512] := by decide +kernel
theorem off9_at : ∀ c : Dev nD, k0_off9 c = ![chRow 0 c 0, 0] := by decide +kernel
theorem off15_at : ∀ c : Dev nD, k0_off15 c = ![chRow 0 c 0, 512] := by decide +kernel
theorem off11_0_at : ∀ c : Dev nD, k0_off11 c 0#32 = ![chRow 0 c 1, 0] := by decide +kernel
theorem off11_1_at : ∀ c : Dev nD, k0_off11 c 1#32 = ![chRow 0 c 2, 0] := by decide +kernel
theorem off11_2_at : ∀ c : Dev nD, k0_off11 c 2#32 = ![chRow 0 c 3, 0] := by decide +kernel
theorem off17_0_at : ∀ c : Dev nD, k0_off17 c 0#32 = ![chRow 0 c 1, 512] := by decide +kernel
theorem off17_1_at : ∀ c : Dev nD, k0_off17 c 1#32 = ![chRow 0 c 2, 512] := by decide +kernel
theorem off17_2_at : ∀ c : Dev nD, k0_off17 c 2#32 = ![chRow 0 c 3, 512] := by decide +kernel
theorem off19_0_at : ∀ c : Dev nD, k0_off19 c 0#32 = ![chRow 0 c 3, 0] := by decide +kernel
theorem off19_1_at : ∀ c : Dev nD, k0_off19 c 1#32 = ![chRow 0 c 0, 0] := by decide +kernel
theorem off19_2_at : ∀ c : Dev nD, k0_off19 c 2#32 = ![chRow 0 c 1, 0] := by decide +kernel
theorem off21_0_at : ∀ c : Dev nD, k0_off21 c 0#32 = ![chRow 0 c 3, 512] := by decide +kernel
theorem off21_1_at : ∀ c : Dev nD, k0_off21 c 1#32 = ![chRow 0 c 0, 512] := by decide +kernel
theorem off21_2_at : ∀ c : Dev nD, k0_off21 c 2#32 = ![chRow 0 c 1, 512] := by decide +kernel
theorem off23_0_at : ∀ c : Dev nD, k0_off23 c 0#32 = ![blkRow 0 c 3, 0] := by decide +kernel
theorem off23_1_at : ∀ c : Dev nD, k0_off23 c 1#32 = ![blkRow 0 c 0, 0] := by decide +kernel
theorem off23_2_at : ∀ c : Dev nD, k0_off23 c 2#32 = ![blkRow 0 c 1, 0] := by decide +kernel
theorem off25_0_at : ∀ c : Dev nD, k0_off25 c 0#32 = ![blkRow 0 c 3, 512] := by decide +kernel
theorem off25_1_at : ∀ c : Dev nD, k0_off25 c 1#32 = ![blkRow 0 c 0, 512] := by decide +kernel
theorem off25_2_at : ∀ c : Dev nD, k0_off25 c 2#32 = ![blkRow 0 c 1, 512] := by decide +kernel
theorem off3_0_at : ∀ c : Dev nD, k0_off3 c 0#32 = ![0, blkRow 1 c 1, 0] := by decide +kernel
theorem off3_1_at : ∀ c : Dev nD, k0_off3 c 1#32 = ![0, blkRow 1 c 2, 0] := by decide +kernel
theorem off3_2_at : ∀ c : Dev nD, k0_off3 c 2#32 = ![0, blkRow 1 c 3, 0] := by decide +kernel
theorem off6_0_at : ∀ c : Dev nD, k0_off6 c 0#32 = ![0, blkRow 1 c 1, 512] := by decide +kernel
theorem off6_1_at : ∀ c : Dev nD, k0_off6 c 1#32 = ![0, blkRow 1 c 2, 512] := by decide +kernel
theorem off6_2_at : ∀ c : Dev nD, k0_off6 c 2#32 = ![0, blkRow 1 c 3, 512] := by decide +kernel
theorem off8_at : ∀ c : Dev nD, k0_off8 c = ![blkRow 1 c 3, 0] := by decide +kernel
theorem off14_at : ∀ c : Dev nD, k0_off14 c = ![blkRow 1 c 3, 512] := by decide +kernel
theorem off10_at : ∀ c : Dev nD, k0_off10 c = ![chRow 1 c 0, 0] := by decide +kernel
theorem off16_at : ∀ c : Dev nD, k0_off16 c = ![chRow 1 c 0, 512] := by decide +kernel
theorem off12_0_at : ∀ c : Dev nD, k0_off12 c 0#32 = ![chRow 1 c 1, 0] := by decide +kernel
theorem off12_1_at : ∀ c : Dev nD, k0_off12 c 1#32 = ![chRow 1 c 2, 0] := by decide +kernel
theorem off12_2_at : ∀ c : Dev nD, k0_off12 c 2#32 = ![chRow 1 c 3, 0] := by decide +kernel
theorem off18_0_at : ∀ c : Dev nD, k0_off18 c 0#32 = ![chRow 1 c 1, 512] := by decide +kernel
theorem off18_1_at : ∀ c : Dev nD, k0_off18 c 1#32 = ![chRow 1 c 2, 512] := by decide +kernel
theorem off18_2_at : ∀ c : Dev nD, k0_off18 c 2#32 = ![chRow 1 c 3, 512] := by decide +kernel
theorem off20_0_at : ∀ c : Dev nD, k0_off20 c 0#32 = ![chRow 1 c 3, 0] := by decide +kernel
theorem off20_1_at : ∀ c : Dev nD, k0_off20 c 1#32 = ![chRow 1 c 0, 0] := by decide +kernel
theorem off20_2_at : ∀ c : Dev nD, k0_off20 c 2#32 = ![chRow 1 c 1, 0] := by decide +kernel
theorem off22_0_at : ∀ c : Dev nD, k0_off22 c 0#32 = ![chRow 1 c 3, 512] := by decide +kernel
theorem off22_1_at : ∀ c : Dev nD, k0_off22 c 1#32 = ![chRow 1 c 0, 512] := by decide +kernel
theorem off22_2_at : ∀ c : Dev nD, k0_off22 c 2#32 = ![chRow 1 c 1, 512] := by decide +kernel
theorem off24_0_at : ∀ c : Dev nD, k0_off24 c 0#32 = ![blkRow 1 c 3, 0] := by decide +kernel
theorem off24_1_at : ∀ c : Dev nD, k0_off24 c 1#32 = ![blkRow 1 c 0, 0] := by decide +kernel
theorem off24_2_at : ∀ c : Dev nD, k0_off24 c 2#32 = ![blkRow 1 c 1, 0] := by decide +kernel
theorem off26_0_at : ∀ c : Dev nD, k0_off26 c 0#32 = ![blkRow 1 c 3, 512] := by decide +kernel
theorem off26_1_at : ∀ c : Dev nD, k0_off26 c 1#32 = ![blkRow 1 c 0, 512] := by decide +kernel
theorem off26_2_at : ∀ c : Dev nD, k0_off26 c 2#32 = ![blkRow 1 c 1, 512] := by decide +kernel
theorem dev5_at : ∀ c : Dev nD, (⟨k0_dev5 c, k0_dev5_lt c⟩ : Dev nD) = tgtP 0 c := by decide +kernel
theorem dev6_at : ∀ c : Dev nD, (⟨k0_dev6 c, k0_dev6_lt c⟩ : Dev nD) = tgtP 1 c := by decide +kernel
theorem dev7_at : ∀ c : Dev nD, (⟨k0_dev7 c, k0_dev7_lt c⟩ : Dev nD) = tgtP 0 c := by decide +kernel
theorem dev8_at : ∀ c : Dev nD, (⟨k0_dev8 c, k0_dev8_lt c⟩ : Dev nD) = tgtP 1 c := by decide +kernel
theorem dev9_at : ∀ c : Dev nD, (⟨k0_dev9 c, k0_dev9_lt c⟩ : Dev nD) = tgtP 0 c := by decide +kernel
theorem dev10_at : ∀ c : Dev nD, (⟨k0_dev10 c, k0_dev10_lt c⟩ : Dev nD) = tgtP 1 c := by decide +kernel
theorem dev11_at : ∀ c : Dev nD, (⟨k0_dev11 c, k0_dev11_lt c⟩ : Dev nD) = tgtP 0 c := by decide +kernel
theorem dev12_at : ∀ c : Dev nD, (⟨k0_dev12 c, k0_dev12_lt c⟩ : Dev nD) = tgtP 1 c := by decide +kernel
theorem dev13_at : ∀ c : Dev nD, (⟨k0_dev13 c, k0_dev13_lt c⟩ : Dev nD) = tgtP 0 c := by decide +kernel
theorem dev14_at : ∀ c : Dev nD, (⟨k0_dev14 c, k0_dev14_lt c⟩ : Dev nD) = tgtP 1 c := by decide +kernel
theorem dev15_at : ∀ c : Dev nD, (⟨k0_dev15 c, k0_dev15_lt c⟩ : Dev nD) = tgtZ 0 c := by decide +kernel
theorem dev16_at : ∀ c : Dev nD, (⟨k0_dev16 c, k0_dev16_lt c⟩ : Dev nD) = tgtZ 1 c := by decide +kernel
theorem dev17_at : ∀ c : Dev nD, (⟨k0_dev17 c, k0_dev17_lt c⟩ : Dev nD) = tgtP 0 c := by decide +kernel
theorem dev18_at : ∀ c : Dev nD, (⟨k0_dev18 c, k0_dev18_lt c⟩ : Dev nD) = tgtP 1 c := by decide +kernel
theorem dev19_at : ∀ c : Dev nD, (⟨k0_dev19 c, k0_dev19_lt c⟩ : Dev nD) = tgtZ 0 c := by decide +kernel
theorem dev20_at : ∀ c : Dev nD, (⟨k0_dev20 c, k0_dev20_lt c⟩ : Dev nD) = tgtZ 1 c := by decide +kernel
theorem dev21_at : ∀ c : Dev nD, (⟨k0_dev21 c, k0_dev21_lt c⟩ : Dev nD) = tgtZ 0 c := by decide +kernel
theorem dev22_at : ∀ c : Dev nD, (⟨k0_dev22 c, k0_dev22_lt c⟩ : Dev nD) = tgtZ 1 c := by decide +kernel
theorem dev23_at : ∀ c : Dev nD, (⟨k0_dev23 c, k0_dev23_lt c⟩ : Dev nD) = tgtZ 0 c := by decide +kernel
theorem dev24_at : ∀ c : Dev nD, (⟨k0_dev24 c, k0_dev24_lt c⟩ : Dev nD) = tgtZ 1 c := by decide +kernel
theorem dev25_at : ∀ c : Dev nD, (⟨k0_dev25 c, k0_dev25_lt c⟩ : Dev nD) = tgtZ 0 c := by decide +kernel
theorem dev26_at : ∀ c : Dev nD, (⟨k0_dev26 c, k0_dev26_lt c⟩ : Dev nD) = tgtZ 1 c := by decide +kernel
theorem dev27_at : ∀ c : Dev nD, (⟨k0_dev27 c, k0_dev27_lt c⟩ : Dev nD) = tgtZ 0 c := by decide +kernel
theorem dev28_at : ∀ c : Dev nD, (⟨k0_dev28 c, k0_dev28_lt c⟩ : Dev nD) = tgtZ 1 c := by decide +kernel
theorem dev29_at : ∀ c : Dev nD, (⟨k0_dev29 c, k0_dev29_lt c⟩ : Dev nD) = tgtZ 0 c := by decide +kernel
theorem dev30_at : ∀ c : Dev nD, (⟨k0_dev30 c, k0_dev30_lt c⟩ : Dev nD) = tgtZ 1 c := by decide +kernel
theorem dev31_at : ∀ c : Dev nD, (⟨k0_dev31 c, k0_dev31_lt c⟩ : Dev nD) = tgtZ 0 c := by decide +kernel
theorem dev32_at : ∀ c : Dev nD, (⟨k0_dev32 c, k0_dev32_lt c⟩ : Dev nD) = tgtZ 1 c := by decide +kernel
theorem dev33_at : ∀ c : Dev nD, (⟨k0_dev33 c, k0_dev33_lt c⟩ : Dev nD) = tgtZ 0 c := by decide +kernel
theorem dev34_at : ∀ c : Dev nD, (⟨k0_dev34 c, k0_dev34_lt c⟩ : Dev nD) = tgtZ 1 c := by decide +kernel
theorem dev35_at : ∀ c : Dev nD, (⟨k0_dev35 c, k0_dev35_lt c⟩ : Dev nD) = tgtZ 0 c := by decide +kernel
theorem dev36_at : ∀ c : Dev nD, (⟨k0_dev36 c, k0_dev36_lt c⟩ : Dev nD) = tgtZ 1 c := by decide +kernel
theorem dev37_at : ∀ c : Dev nD, (⟨k0_dev37 c, k0_dev37_lt c⟩ : Dev nD) = tgtZ 0 c := by decide +kernel
theorem dev38_at : ∀ c : Dev nD, (⟨k0_dev38 c, k0_dev38_lt c⟩ : Dev nD) = tgtZ 1 c := by decide +kernel
theorem dev39_at : ∀ c : Dev nD, (⟨k0_dev39 c, k0_dev39_lt c⟩ : Dev nD) = tgtP 0 c := by decide +kernel
theorem dev40_at : ∀ c : Dev nD, (⟨k0_dev40 c, k0_dev40_lt c⟩ : Dev nD) = tgtP 1 c := by decide +kernel
theorem dev41_at : ∀ c : Dev nD, (⟨k0_dev41 c, k0_dev41_lt c⟩ : Dev nD) = tgtZ 0 c := by decide +kernel
theorem dev42_at : ∀ c : Dev nD, (⟨k0_dev42 c, k0_dev42_lt c⟩ : Dev nD) = tgtZ 1 c := by decide +kernel
theorem dev43_at : ∀ c : Dev nD, (⟨k0_dev43 c, k0_dev43_lt c⟩ : Dev nD) = tgtP 0 c := by decide +kernel
theorem dev44_at : ∀ c : Dev nD, (⟨k0_dev44 c, k0_dev44_lt c⟩ : Dev nD) = tgtP 1 c := by decide +kernel
theorem dev45_at : ∀ c : Dev nD, (⟨k0_dev45 c, k0_dev45_lt c⟩ : Dev nD) = tgtP 0 c := by decide +kernel
theorem dev46_at : ∀ c : Dev nD, (⟨k0_dev46 c, k0_dev46_lt c⟩ : Dev nD) = tgtP 1 c := by decide +kernel
theorem dev47_at : ∀ c : Dev nD, (⟨k0_dev47 c, k0_dev47_lt c⟩ : Dev nD) = tgtP 0 c := by decide +kernel
theorem dev48_at : ∀ c : Dev nD, (⟨k0_dev48 c, k0_dev48_lt c⟩ : Dev nD) = tgtP 1 c := by decide +kernel
theorem dev49_at : ∀ c : Dev nD, (⟨k0_dev49 c, k0_dev49_lt c⟩ : Dev nD) = tgtP 0 c := by decide +kernel
theorem dev50_at : ∀ c : Dev nD, (⟨k0_dev50 c, k0_dev50_lt c⟩ : Dev nD) = tgtP 1 c := by decide +kernel
theorem dev51_at : ∀ c : Dev nD, (⟨k0_dev51 c, k0_dev51_lt c⟩ : Dev nD) = tgtP 0 c := by decide +kernel
theorem dev52_at : ∀ c : Dev nD, (⟨k0_dev52 c, k0_dev52_lt c⟩ : Dev nD) = tgtP 1 c := by decide +kernel
theorem dev1_at : ∀ c : Dev nD, (⟨k0_dev1 c, k0_dev1_lt c⟩ : Dev nD) = tgtP 0 c := by decide +kernel
theorem dev2_at : ∀ c : Dev nD, (⟨k0_dev2 c, k0_dev2_lt c⟩ : Dev nD) = tgtP 1 c := by decide +kernel
theorem dev3_at : ∀ c : Dev nD, (⟨k0_dev3 c, k0_dev3_lt c⟩ : Dev nD) = tgtZ 0 c := by decide +kernel
theorem dev4_at : ∀ c : Dev nD, (⟨k0_dev4 c, k0_dev4_lt c⟩ : Dev nD) = tgtZ 1 c := by decide +kernel

end Cert.KernelIdeal.AllReduce
-- ==== Proof.Vals.lean ====
/-
# The values

What every buffer holds at every stage, as functions of the sixteen argument blocks: the partial sums around a plane
(`accA`), the partial sums across the planes (`accB`), the finished result (`resC`), and the vectors the program loads
and stores of them. The program's payloads are one addition of two such vectors each, or a copy.
-/
module

public import proofs.«01_k».proof.Proof.Mesh
public import proofs.«01_k».proof.Proof.Gen.KernelIdeal.Skeleton
public import Idealize.ShloMosaic.Lib.Pipeline.Value
public import Idealize.ShloMosaic.Lib.ValueIdxCore

@[expose] public section

set_option maxRecDepth 8000

noncomputable section

namespace Cert.KernelIdeal.AllReduce

open Idealize.ShloMosaic Cert.KernelIdeal.Gen
open Idealize.ShloMosaic.TcCoe
open Idealize.ShloMosaic.ValueIdx

variable {F : FTy → Type} [FloatOps F]
variable (m : (ℓ : Loc nD τ sig) → Buf (Elt F) ℓ)

/-- The addition the kernel uses. -/
def fadd (a b : F .f32) : F .f32 := FloatOps.addf a b

/-- Entry `(r, q)` of device `c`'s argument block. -/
def xat (c : Dev nD) (r q : ℕ) : F .f32 :=
  (m ((c : Thread nD τ).loc main_arg0) : S1x1024x1024.Idx → F .f32)
    (ix3 (0 : Fin 1) (⟨r % 1024, Nat.mod_lt _ (by decide)⟩ : Fin 1024) (⟨q % 1024, Nat.mod_lt _ (by decide)⟩ : Fin 1024))

/-- The sum of `h + 1` argument blocks of one plane: device `c`'s and those of the `h` devices before it in direction `d`. -/
def accA (d : ℕ) : ℕ → Dev nD → ℕ → ℕ → F .f32
  | 0, c, r, q => xat m c r q
  | h + 1, c, r, q => fadd (accA d h (backP d c) r q) (xat m c r q)

/-- The sum of `h + 1` whole-plane sums: that of device `c`'s plane and those of the `h` planes before it in direction `d`. -/
def accB (d : ℕ) : ℕ → Dev nD → ℕ → ℕ → F .f32
  | 0, c, r, q => accA m d 3 c r q
  | h + 1, c, r, q => fadd (accB d h (backZ d c) r q) (accA m d 3 c r q)

/-- The direction in which row `r` is reduced. -/
def dirOf (r : ℕ) : ℕ := (r / 128) % 2
/-- The device that completes row `r`. -/
def owner (r : ℕ) : Dev nD :=
  ⟨4 * (((r / 32) % 4 + rs (dirOf r)) % 4) + (r / 256 + rs (dirOf r)) % 4, by show _ < 16; omega⟩

/-- Entry `(r, q)` of the finished result. -/
def resAt (r q : ℕ) : F .f32 := accB m (dirOf r) 3 (owner r) r q

/-- The result array. -/
def resC : S1024x1024.Idx → F .f32 := fun i => resAt m (i 0).val (i 1).val
/-- The result buffer's rows that hold a plane's sum, before the reduction across planes. -/
def outA (c : Dev nD) : S1024x1024.Idx → F .f32 := fun i => accA m (dirOf (i 0).val) 3 c (i 0).val (i 1).val
/-- The send buffer of the reduction around a plane. -/
def stA (c : Dev nD) : S2x2x3x128x512.Idx → F .f32 := fun i =>
  accA m (i 1).val (i 2).val c (blkRow (i 1).val c (i 2).val + (i 3).val) (512 * (i 0).val + (i 4).val)
/-- Its receive buffer holds what the device before sent. -/
def rcA (c : Dev nD) : S2x2x3x128x512.Idx → F .f32 := fun i => stA m (backP (i 1).val c) i
/-- The send buffer of the reduction across planes. -/
def stB (c : Dev nD) : S2x2x3x32x512.Idx → F .f32 := fun i =>
  accB m (i 1).val (i 2).val c (chRow (i 1).val c (i 2).val + (i 3).val) (512 * (i 0).val + (i 4).val)
/-- Its receive buffer. -/
def rcB (c : Dev nD) : S2x2x3x32x512.Idx → F .f32 := fun i => stB m (backZ (i 1).val c) i

/-! ### The vectors loaded and stored -/

/-- Rows of the argument block: half block `h` in direction `d`, columns of stream `st`. -/
def xV (c : Dev nD) (st d h : ℕ) : Vec F S1x128x512 .f32 := fun j => xat m c (blkRow d c h + (j 1).val) (512 * st + (j 2).val)
/-- The partial sum that leaves device `c` at hop `h` around the plane; -/
def stAV (c : Dev nD) (st d h : ℕ) : Vec F S1x1x1x128x512 .f32 := fun j =>
  accA m d h c (blkRow d c h + (j 3).val) (512 * st + (j 4).val)
/-- and the one that arrives. -/
def raV (c : Dev nD) (st d h : ℕ) : Vec F S1x1x1x128x512 .f32 := fun j =>
  accA m d h (backP d c) (blkRow d c (h + 1) + (j 3).val) (512 * st + (j 4).val)
/-- A plane's sum over the half block the device reduces. -/
def oAV (c : Dev nD) (st d : ℕ) : Vec F S128x512 .f32 := fun j =>
  accA m d 3 c (blkRow d c 3 + (j 0).val) (512 * st + (j 1).val)
/-- Chunk `k` of it. -/
def ochV (c : Dev nD) (st d k : ℕ) : Vec F S32x512 .f32 := fun j =>
  accA m d 3 c (chRow d c k + (j 0).val) (512 * st + (j 1).val)
/-- The partial sum that leaves device `c` at hop `h` across the planes; -/
def stBV (c : Dev nD) (st d h : ℕ) : Vec F S1x1x1x32x512 .f32 := fun j =>
  accB m d h c (chRow d c h + (j 3).val) (512 * st + (j 4).val)
/-- and the one that arrives. -/
def rbV (c : Dev nD) (st d h : ℕ) : Vec F S1x1x1x32x512 .f32 := fun j =>
  accB m d h (backZ d c) (chRow d c (h + 1) + (j 3).val) (512 * st + (j 4).val)
/-- The finished chunk. -/
def resV (c : Dev nD) (st d : ℕ) : Vec F S32x512 .f32 := fun j =>
  accB m d 3 c (chRow d c 3 + (j 0).val) (512 * st + (j 1).val)

/-! ### The payloads -/

section Pay

/-- Reading a 128-row vector through the cast that drops the unit axes of a slot. -/
theorem cast_slot_128 (v : Vec F S1x1x1x128x512 .f32) (h : S1x1x1x128x512.ShapeCasts S128x512) (j : S128x512.Idx) :
    shapeCast S128x512 v h j = v (ix5 0 0 0 (j 0) (j 1)) := by
  apply shapeCast_apply
  rw [Shape.rowMajor_val_five, Shape.rowMajor_val_two]
  simp
theorem cast_x_128 (v : Vec F S1x128x512 .f32) (h : S1x128x512.ShapeCasts S128x512) (j : S128x512.Idx) :
    shapeCast S128x512 v h j = v (ix3 0 (j 0) (j 1)) := by
  apply shapeCast_apply
  rw [Shape.rowMajor_val_three, Shape.rowMajor_val_two]
  simp
theorem cast_to_slot_128 (v : Vec F S128x512 .f32) (h : S128x512.ShapeCasts S1x1x1x128x512) (j : S1x1x1x128x512.Idx) :
    shapeCast S1x1x1x128x512 v h j = v (ix2 (j 3) (j 4)) := by
  apply shapeCast_apply
  rw [Shape.rowMajor_val_five, Shape.rowMajor_val_two]
  have h0 : (j 0).val < 1 := (j 0).isLt
  have h1 : (j 1).val < 1 := (j 1).isLt
  have h2 : (j 2).val < 1 := (j 2).isLt
  simp; omega
theorem cast_slot_32 (v : Vec F S1x1x1x32x512 .f32) (h : S1x1x1x32x512.ShapeCasts S32x512) (j : S32x512.Idx) :
    shapeCast S32x512 v h j = v (ix5 0 0 0 (j 0) (j 1)) := by
  apply shapeCast_apply
  rw [Shape.rowMajor_val_five, Shape.rowMajor_val_two]
  simp
theorem cast_to_slot_32 (v : Vec F S32x512 .f32) (h : S32x512.ShapeCasts S1x1x1x32x512) (j : S1x1x1x32x512.Idx) :
    shapeCast S1x1x1x32x512 v h j = v (ix2 (j 3) (j 4)) := by
  apply shapeCast_apply
  rw [Shape.rowMajor_val_five, Shape.rowMajor_val_two]
  have h0 : (j 0).val < 1 := (j 0).isLt
  have h1 : (j 1).val < 1 := (j 1).isLt
  have h2 : (j 2).val < 1 := (j 2).isLt
  simp; omega

variable (c : Dev nD) (st d h : ℕ)

/-- The first store of a stream copies the argument's own half block. -/
theorem pay_prepA : k0_pay1 (xV m c st d 0) = stAV m c st d 0 := by
  funext j; show shapeCast S1x1x1x128x512 (shapeCast S128x512 (xV m c st d 0) shapeCasts_S1x128x512_S128x512) shapeCasts_S128x512_S1x1x1x128x512 j = _
  rw [cast_to_slot_128, cast_x_128]; rfl
/-- An arriving partial sum plus the argument's half block is the next one to leave. -/
theorem pay_finA : k0_pay3 (raV m c st d h) (xV m c st d (h + 1)) = stAV m c st d (h + 1) := by
  funext j; show shapeCast _ (addf (shapeCast _ _ _) (shapeCast _ _ _)) _ j = _
  rw [cast_to_slot_128]
  show FloatOps.addf (shapeCast _ _ _ _) (shapeCast _ _ _ _) = _
  rw [cast_slot_128, cast_x_128]; rfl
/-- The last hop's sum is the plane's. -/
theorem pay_finA2 : k0_pay11 (raV m c st d 2) (xV m c st d 3) = oAV m c st d := by
  funext j; show addf (shapeCast _ _ _) (shapeCast _ _ _) j = _
  show FloatOps.addf (shapeCast _ _ _ _) (shapeCast _ _ _ _) = _
  rw [cast_slot_128, cast_x_128]; rfl

/-- The first store across planes copies the plane's sum over the device's own chunk. -/
theorem pay_prepB : k0_pay15 (ochV m c st d 0) = stBV m c st d 0 := by
  funext j; show shapeCast _ (shapeCast _ (ochV m c st d 0) _) _ j = _
  rw [shapeCast_self, cast_to_slot_32]; rfl
/-- An arriving partial sum plus the own plane's sum is the next one to leave. -/
theorem pay_finB : k0_pay18 (rbV m c st d h) (ochV m c st d (h + 1)) = stBV m c st d (h + 1) := by
  funext j; show shapeCast _ (addf (shapeCast _ _ _) (shapeCast _ _ _)) _ j = _
  rw [cast_to_slot_32, shapeCast_self]
  show FloatOps.addf (shapeCast _ _ _ _) _ = _
  rw [cast_slot_32]; rfl
/-- The last hop's sum is the result's. -/
theorem pay_finB2 : k0_pay32 (rbV m c st d 2) (ochV m c st d 3) = resV m c st d := by
  funext j; show FloatOps.addf (shapeCast _ _ _ _) (shapeCast _ _ _ _) = _
  rw [cast_slot_32, shapeCast_self]; rfl

end Pay

end Cert.KernelIdeal.AllReduce
-- ==== Proof.Regions.lean ====
/-
# The regions of the buffers

The slots of the four scratch buffers, the row blocks of the result, and what the program's loads, stores and copies do
on them: which elements an operation touches, and which values it reads or leaves there.
-/
module

public import proofs.«01_k».proof.Proof.Vals

@[expose] public section

set_option maxRecDepth 8000

noncomputable section

namespace Cert.KernelIdeal.AllReduce

open Idealize.ShloMosaic Cert.KernelIdeal.Gen
open Idealize.ShloMosaic.TcCoe
open Idealize.ShloMosaic.ValueIdx

variable {F : FTy → Type} [FloatOps F]
variable (m : (ℓ : Loc nD τ sig) → Buf (Elt F) ℓ)

abbrev xM : Memref sig .tc .vmem S1x1024x1024 .f32 := Memref.whole cc0_stg0_0
abbrev oM : Memref sig .tc .vmem S1024x1024 .f32 := Memref.whole cc0_stg1_0
abbrev saM : Memref sig .tc .vmem S2x2x3x128x512 .f32 := Memref.whole cc0_scratch0
abbrev raM : Memref sig .tc .vmem S2x2x3x128x512 .f32 := Memref.whole cc0_scratch1
abbrev sbM : Memref sig .tc .vmem S2x2x3x32x512 .f32 := Memref.whole cc0_scratch2
abbrev rbM : Memref sig .tc .vmem S2x2x3x32x512 .f32 := Memref.whole cc0_scratch3

/-- Slot `(st, d, k)` of a buffer of 128-row slots. -/
def slotA (st d k : ℕ) : Finset S2x2x3x128x512.Idx := Finset.univ.filter fun i => (i 0).val = st ∧ (i 1).val = d ∧ (i 2).val = k
/-- Slot `(st, d, k)` of a buffer of 32-row slots. -/
def slotB (st d k : ℕ) : Finset S2x2x3x32x512.Idx := Finset.univ.filter fun i => (i 0).val = st ∧ (i 1).val = d ∧ (i 2).val = k
/-- `n` rows from row `r` of the result, columns of stream `st`. -/
def rows (r n st : ℕ) : Finset S1024x1024.Idx :=
  Finset.univ.filter fun i => (r ≤ (i 0).val ∧ (i 0).val < r + n) ∧ 512 * st ≤ (i 1).val ∧ (i 1).val < 512 * st + 512

theorem mem_slotA {st d k : ℕ} {i : S2x2x3x128x512.Idx} : i ∈ slotA st d k ↔ (i 0).val = st ∧ (i 1).val = d ∧ (i 2).val = k := by
  simp [slotA]
theorem mem_slotB {st d k : ℕ} {i : S2x2x3x32x512.Idx} : i ∈ slotB st d k ↔ (i 0).val = st ∧ (i 1).val = d ∧ (i 2).val = k := by
  simp [slotB]
theorem mem_rows {r n st : ℕ} {i : S1024x1024.Idx} :
    i ∈ rows r n st ↔ (r ≤ (i 0).val ∧ (i 0).val < r + n) ∧ 512 * st ≤ (i 1).val ∧ (i 1).val < 512 * st + 512 := by
  simp [rows]

/-! ### Rectangles -/

theorem rect_slotA {st d k : ℕ} {off : Fin 5 → ℕ} (hoff : off = ![st, d, k, 0, 0])
    (inb : ∀ a, off a + S1x1x1x128x512.size a ≤ S2x2x3x128x512.size a) :
    (Rect.unit (s := S2x2x3x128x512) off S1x1x1x128x512.size inb).set = slotA st d k := by
  subst hoff; ext i
  have h3 : (i 3).val < 128 := (i 3).isLt
  have h4 : (i 4).val < 512 := (i 4).isLt
  rw [mem_slotA, LoadRect.mem_set]
  constructor
  · intro h
    obtain ⟨j0, a0, b0⟩ := h 0
    obtain ⟨j1, a1, b1⟩ := h 1
    obtain ⟨j2, a2, b2⟩ := h 2
    change j0 < 1 at a0; change j1 < 1 at a1; change j2 < 1 at a2
    change (i 0).val = st + 1 * j0 at b0; change (i 1).val = d + 1 * j1 at b1; change (i 2).val = k + 1 * j2 at b2
    omega
  · rintro ⟨h0, h1, h2⟩ a
    match a with
    | ⟨0, _⟩ => exact ⟨0, Nat.one_pos, h0⟩
    | ⟨1, _⟩ => exact ⟨0, Nat.one_pos, h1⟩
    | ⟨2, _⟩ => exact ⟨0, Nat.one_pos, h2⟩
    | ⟨3, _⟩ => exact ⟨(i 3).val, h3, by show (i 3).val = 0 + 1 * (i 3).val; omega⟩
    | ⟨4, _⟩ => exact ⟨(i 4).val, h4, by show (i 4).val = 0 + 1 * (i 4).val; omega⟩

theorem rect_slotB {st d k : ℕ} {off : Fin 5 → ℕ} (hoff : off = ![st, d, k, 0, 0])
    (inb : ∀ a, off a + S1x1x1x32x512.size a ≤ S2x2x3x32x512.size a) :
    (Rect.unit (s := S2x2x3x32x512) off S1x1x1x32x512.size inb).set = slotB st d k := by
  subst hoff; ext i
  have h3 : (i 3).val < 32 := (i 3).isLt
  have h4 : (i 4).val < 512 := (i 4).isLt
  rw [mem_slotB, LoadRect.mem_set]
  constructor
  · intro h
    obtain ⟨j0, a0, b0⟩ := h 0
    obtain ⟨j1, a1, b1⟩ := h 1
    obtain ⟨j2, a2, b2⟩ := h 2
    change j0 < 1 at a0; change j1 < 1 at a1; change j2 < 1 at a2
    change (i 0).val = st + 1 * j0 at b0; change (i 1).val = d + 1 * j1 at b1; change (i 2).val = k + 1 * j2 at b2
    omega
  · rintro ⟨h0, h1, h2⟩ a
    match a with
    | ⟨0, _⟩ => exact ⟨0, Nat.one_pos, h0⟩
    | ⟨1, _⟩ => exact ⟨0, Nat.one_pos, h1⟩
    | ⟨2, _⟩ => exact ⟨0, Nat.one_pos, h2⟩
    | ⟨3, _⟩ => exact ⟨(i 3).val, h3, by show (i 3).val = 0 + 1 * (i 3).val; omega⟩
    | ⟨4, _⟩ => exact ⟨(i 4).val, h4, by show (i 4).val = 0 + 1 * (i 4).val; omega⟩

theorem rect_rows {r n st : ℕ} {off : Fin 2 → ℕ} (hoff : off = ![r, 512 * st])
    (inb : ∀ a, off a + ![n, 512] a ≤ S1024x1024.size a) :
    (Rect.unit (s := S1024x1024) off ![n, 512] inb).set = rows r n st := by
  subst hoff; ext i
  rw [mem_rows, LoadRect.mem_set]
  constructor
  · intro h
    obtain ⟨j0, a0, b0⟩ := h 0
    obtain ⟨j1, a1, b1⟩ := h 1
    change j0 < n at a0; change j1 < 512 at a1
    change (i 0).val = r + 1 * j0 at b0; change (i 1).val = 512 * st + 1 * j1 at b1
    omega
  · rintro ⟨⟨h0, h1⟩, h2, h3⟩ a
    match a with
    | ⟨0, _⟩ => exact ⟨(i 0).val - r, by show _ < n; omega, by show (i 0).val = r + 1 * ((i 0).val - r); omega⟩
    | ⟨1, _⟩ => exact ⟨(i 1).val - 512 * st, by show _ < 512; omega, by show (i 1).val = 512 * st + 1 * ((i 1).val - 512 * st); omega⟩

/-! ### Rows and directions -/

theorem dirOf_blk {d : ℕ} (hd : d < 2) (c : Dev nD) (h : ℕ) {r : ℕ} (hr : r < 128) : dirOf (blkRow d c h + r) = d := by
  unfold dirOf blkRow; omega
theorem dirOf_ch {d : ℕ} (hd : d < 2) (c : Dev nD) (k : ℕ) {r : ℕ} (hr : r < 32) : dirOf (chRow d c k + r) = d := by
  unfold dirOf chRow blkRow; omega
/-- Device `c` completes the rows of its last chunk. -/
theorem owner_ch {d : ℕ} (hd : d < 2) (c : Dev nD) {r : ℕ} (hr : r < 32) : owner (chRow d c 3 + r) = c := by
  have hdir := dirOf_ch hd c 3 hr
  have hc : c.val < 16 := c.isLt
  apply Fin.ext; show 4 * _ + _ = c.val
  rw [hdir]; unfold chRow blkRow
  obtain ⟨A, hA, eA⟩ : ∃ A, A < 4 ∧ (c.val + 3 * rs d) % 4 = A := ⟨_, Nat.mod_lt _ (by decide), rfl⟩
  obtain ⟨B, hB, eB⟩ : ∃ B, B < 4 ∧ (c.val / 4 + 3 * rs d) % 4 = B := ⟨_, Nat.mod_lt _ (by decide), rfl⟩
  rw [eA, eB, show (256 * A + 128 * d + 32 * B + r) / 32 % 4 = B by omega, show (256 * A + 128 * d + 32 * B + r) / 256 = A by omega]
  rcases sg_cases d with ⟨_, h2⟩ | ⟨_, h2⟩ <;> rw [h2] at eA eB ⊢ <;> omega

/-! ### What the loads read -/

/-- What device `c`'s argument buffer holds: its block of the argument. -/
def xstg (c : Dev nD) : (cc0_stg0_0 : Ref sig .tc).ty.Contents (Elt F) :=
  (win0_0.blk (0 : Fin 1)).view.read (Elt F) (m ((c : Thread nD τ).loc main_arg0))

theorem xstg_apply (c : Dev nD) (i : S1x1024x1024.Idx) : (xstg m c : S1x1024x1024.Idx → F .f32) i = xat m c (i 1).val (i 2).val := by
  have h0 : (i 0).val < 1 := (i 0).isLt
  show m ((c : Thread nD τ).loc main_arg0) _ = m ((c : Thread nD τ).loc main_arg0) _
  congr 1
  funext a
  have h1 : (i 1).val < 1024 := (i 1).isLt
  have h2 : (i 2).val < 1024 := (i 2).isLt
  match a with
  | ⟨0, _⟩ => apply Fin.ext; show _ + 1 * (i 0).val = 0; have : ((win0_0.rect (0 : Fin 1)).off 0) = 0 := rfl; show (win0_0.rect (0 : Fin 1)).off 0 + 1 * (i 0).val = 0; omega
  | ⟨1, _⟩ => apply Fin.ext; show _ = (i 1).val % 1024; rw [Nat.mod_eq_of_lt h1]; show 0 + 1 * (i 1).val = _; omega
  | ⟨2, _⟩ => apply Fin.ext; show _ = (i 2).val % 1024; rw [Nat.mod_eq_of_lt h2]; show 0 + 1 * (i 2).val = _; omega

theorem read_x (c : Dev nD) {st d h : ℕ} {off : Fin 3 → ℕ} (hoff : off = ![0, blkRow d c h, 512 * st])
    (inb : ∀ a, off a + S1x128x512.size a ≤ S1x1024x1024.size a) :
    xM.view.readAt (Elt F) (Rect.unit (s := S1x1024x1024) off S1x128x512.size inb).toLoadRect (xstg m c) = xV m c st d h := by
  subst hoff; funext j
  show (xstg m c : S1x1024x1024.Idx → F .f32) _ = _
  rw [xstg_apply]; unfold xV
  congr 1
  · show _ + 1 * (j 1).val = _; rw [Nat.one_mul]; rfl
  · show _ + 1 * (j 2).val = _; rw [Nat.one_mul]; rfl

theorem read_ra (c : Dev nD) {st d k : ℕ} {off : Fin 5 → ℕ} (hoff : off = ![st, d, k, 0, 0])
    (inb : ∀ a, off a + S1x1x1x128x512.size a ≤ S2x2x3x128x512.size a) :
    raM.view.readAt (Elt F) (Rect.unit (s := S2x2x3x128x512) off S1x1x1x128x512.size inb).toLoadRect (rcA m c) = raV m c st d k := by
  subst hoff; funext j
  have h0 : (j 0).val < 1 := (j 0).isLt
  have h1 : (j 1).val < 1 := (j 1).isLt
  have h2 : (j 2).val < 1 := (j 2).isLt
  show accA m (d + 1 * (j 1).val) (k + 1 * (j 2).val) (backP (d + 1 * (j 1).val) c)
    (blkRow (d + 1 * (j 1).val) (backP (d + 1 * (j 1).val) c) (k + 1 * (j 2).val) + (0 + 1 * (j 3).val)) (512 * (st + 1 * (j 0).val) + (0 + 1 * (j 4).val)) = _
  rw [show (j 0).val = 0 by omega, show (j 1).val = 0 by omega, show (j 2).val = 0 by omega]
  simp only [Nat.mul_zero, Nat.add_zero, Nat.one_mul, Nat.zero_add, blkRow_backP]
  rfl

theorem read_rb (c : Dev nD) {st d k : ℕ} {off : Fin 5 → ℕ} (hoff : off = ![st, d, k, 0, 0])
    (inb : ∀ a, off a + S1x1x1x32x512.size a ≤ S2x2x3x32x512.size a) :
    rbM.view.readAt (Elt F) (Rect.unit (s := S2x2x3x32x512) off S1x1x1x32x512.size inb).toLoadRect (rcB m c) = rbV m c st d k := by
  subst hoff; funext j
  have h0 : (j 0).val < 1 := (j 0).isLt
  have h1 : (j 1).val < 1 := (j 1).isLt
  have h2 : (j 2).val < 1 := (j 2).isLt
  show accB m (d + 1 * (j 1).val) (k + 1 * (j 2).val) (backZ (d + 1 * (j 1).val) c)
    (chRow (d + 1 * (j 1).val) (backZ (d + 1 * (j 1).val) c) (k + 1 * (j 2).val) + (0 + 1 * (j 3).val)) (512 * (st + 1 * (j 0).val) + (0 + 1 * (j 4).val)) = _
  rw [show (j 0).val = 0 by omega, show (j 1).val = 0 by omega, show (j 2).val = 0 by omega]
  simp only [Nat.mul_zero, Nat.add_zero, Nat.one_mul, Nat.zero_add, chRow_backZ]
  rfl

theorem read_och (c : Dev nD) {st d k : ℕ} (hd : d < 2) {off : Fin 2 → ℕ} (hoff : off = ![chRow d c k, 512 * st])
    (inb : ∀ a, off a + S32x512.size a ≤ S1024x1024.size a) :
    oM.view.readAt (Elt F) (Rect.unit (s := S1024x1024) off S32x512.size inb).toLoadRect (outA m c) = ochV m c st d k := by
  subst hoff; funext j
  have h0 : (j 0).val < 32 := (j 0).isLt
  show accA m (dirOf (chRow d c k + 1 * (j 0).val)) 3 c (chRow d c k + 1 * (j 0).val) (512 * st + 1 * (j 1).val) = _
  rw [Nat.one_mul, Nat.one_mul, dirOf_ch hd c k h0]; rfl

/-! ### What the stores leave -/

theorem write_at {sp : Space} {s : Shape} {e : EltTy} (v : View sig .tc sp s e) (f : v.ty.Contents (Elt F)) (w : s.Idx → Elt F e) (i : v.ty.Idx) (hi : i ∈ v.set)
    (g : v.ty.Contents (Elt F)) (h : ∀ j, cast (congrArg (Elt F) v.elt_eq.symm) (w j) = g (v.emb j)) : v.write (Elt F) f w Finset.univ i = g i := by
  obtain ⟨j, -, rfl⟩ := Finset.mem_map.mp hi
  exact (View.write_emb_of_mem (v := v) f w (Finset.mem_univ j)).trans (h j)

theorem set_sa {st d k : ℕ} {off : Fin 5 → ℕ} (hoff : off = ![st, d, k, 0, 0])
    (inb : ∀ a, off a + S1x1x1x128x512.size a ≤ S2x2x3x128x512.size a) :
    (saM.access (Rect.unit (s := S2x2x3x128x512) off S1x1x1x128x512.size inb)).set = slotA st d k :=
  (View.set_slice_whole cc0_scratch0 _).trans (rect_slotA hoff inb)
/-- The slot as a copy's operand. -/
abbrev saW (off : Fin 5 → ℕ) (inb : ∀ a, off a + S1x1x1x128x512.size a ≤ S2x2x3x128x512.size a) : Memref sig .tc .vmem S128x512 .f32 :=
  (saM.slice (Rect.unit (s := S2x2x3x128x512) off S1x1x1x128x512.size inb) (fun _ => rfl)).squeeze S128x512 squeezes_S1x1x1x128x512_S128x512
theorem set_saW {st d k : ℕ} {off : Fin 5 → ℕ} (hoff : off = ![st, d, k, 0, 0])
    (inb : ∀ a, off a + S1x1x1x128x512.size a ≤ S2x2x3x128x512.size a) : (saW off inb).view.set = slotA st d k :=
  (View.set_reshape _ _).trans (set_sa hoff inb)

theorem set_ra {st d k : ℕ} {off : Fin 5 → ℕ} (hoff : off = ![st, d, k, 0, 0])
    (inb : ∀ a, off a + S1x1x1x128x512.size a ≤ S2x2x3x128x512.size a) :
    (raM.access (Rect.unit (s := S2x2x3x128x512) off S1x1x1x128x512.size inb)).set = slotA st d k :=
  (View.set_slice_whole cc0_scratch1 _).trans (rect_slotA hoff inb)
/-- The slot as a copy's operand. -/
abbrev raW (off : Fin 5 → ℕ) (inb : ∀ a, off a + S1x1x1x128x512.size a ≤ S2x2x3x128x512.size a) : Memref sig .tc .vmem S128x512 .f32 :=
  (raM.slice (Rect.unit (s := S2x2x3x128x512) off S1x1x1x128x512.size inb) (fun _ => rfl)).squeeze S128x512 squeezes_S1x1x1x128x512_S128x512
theorem set_raW {st d k : ℕ} {off : Fin 5 → ℕ} (hoff : off = ![st, d, k, 0, 0])
    (inb : ∀ a, off a + S1x1x1x128x512.size a ≤ S2x2x3x128x512.size a) : (raW off inb).view.set = slotA st d k :=
  (View.set_reshape _ _).trans (set_ra hoff inb)

theorem set_sb {st d k : ℕ} {off : Fin 5 → ℕ} (hoff : off = ![st, d, k, 0, 0])
    (inb : ∀ a, off a + S1x1x1x32x512.size a ≤ S2x2x3x32x512.size a) :
    (sbM.access (Rect.unit (s := S2x2x3x32x512) off S1x1x1x32x512.size inb)).set = slotB st d k :=
  (View.set_slice_whole cc0_scratch2 _).trans (rect_slotB hoff inb)
/-- The slot as a copy's operand. -/
abbrev sbW (off : Fin 5 → ℕ) (inb : ∀ a, off a + S1x1x1x32x512.size a ≤ S2x2x3x32x512.size a) : Memref sig .tc .vmem S32x512 .f32 :=
  (sbM.slice (Rect.unit (s := S2x2x3x32x512) off S1x1x1x32x512.size inb) (fun _ => rfl)).squeeze S32x512 squeezes_S1x1x1x32x512_S32x512
theorem set_sbW {st d k : ℕ} {off : Fin 5 → ℕ} (hoff : off = ![st, d, k, 0, 0])
    (inb : ∀ a, off a + S1x1x1x32x512.size a ≤ S2x2x3x32x512.size a) : (sbW off inb).view.set = slotB st d k :=
  (View.set_reshape _ _).trans (set_sb hoff inb)

theorem set_rb {st d k : ℕ} {off : Fin 5 → ℕ} (hoff : off = ![st, d, k, 0, 0])
    (inb : ∀ a, off a + S1x1x1x32x512.size a ≤ S2x2x3x32x512.size a) :
    (rbM.access (Rect.unit (s := S2x2x3x32x512) off S1x1x1x32x512.size inb)).set = slotB st d k :=
  (View.set_slice_whole cc0_scratch3 _).trans (rect_slotB hoff inb)
/-- The slot as a copy's operand. -/
abbrev rbW (off : Fin 5 → ℕ) (inb : ∀ a, off a + S1x1x1x32x512.size a ≤ S2x2x3x32x512.size a) : Memref sig .tc .vmem S32x512 .f32 :=
  (rbM.slice (Rect.unit (s := S2x2x3x32x512) off S1x1x1x32x512.size inb) (fun _ => rfl)).squeeze S32x512 squeezes_S1x1x1x32x512_S32x512
theorem set_rbW {st d k : ℕ} {off : Fin 5 → ℕ} (hoff : off = ![st, d, k, 0, 0])
    (inb : ∀ a, off a + S1x1x1x32x512.size a ≤ S2x2x3x32x512.size a) : (rbW off inb).view.set = slotB st d k :=
  (View.set_reshape _ _).trans (set_rb hoff inb)

theorem set_o32 {r st : ℕ} {off : Fin 2 → ℕ} (hoff : off = ![r, 512 * st])
    (inb : ∀ a, off a + S32x512.size a ≤ S1024x1024.size a) :
    (oM.access (Rect.unit (s := S1024x1024) off S32x512.size inb)).set = rows r 32 st :=
  (View.set_slice_whole cc0_stg1_0 _).trans (rect_rows hoff inb)
/-- 32 rows of the result as a copy's operand. -/
abbrev oV32 (off : Fin 2 → ℕ) (inb : ∀ a, off a + S32x512.size a ≤ S1024x1024.size a) : Memref sig .tc .vmem S32x512 .f32 :=
  oM.slice (Rect.unit (s := S1024x1024) off S32x512.size inb) (fun _ => rfl)

theorem set_o128 {r st : ℕ} {off : Fin 2 → ℕ} (hoff : off = ![r, 512 * st])
    (inb : ∀ a, off a + S128x512.size a ≤ S1024x1024.size a) :
    (oM.access (Rect.unit (s := S1024x1024) off S128x512.size inb)).set = rows r 128 st :=
  (View.set_slice_whole cc0_stg1_0 _).trans (rect_rows hoff inb)
/-- 128 rows of the result as a copy's operand. -/
abbrev oV128 (off : Fin 2 → ℕ) (inb : ∀ a, off a + S128x512.size a ≤ S1024x1024.size a) : Memref sig .tc .vmem S128x512 .f32 :=
  oM.slice (Rect.unit (s := S1024x1024) off S128x512.size inb) (fun _ => rfl)

theorem write_sa (c : Dev nD) {st d k : ℕ} {off : Fin 5 → ℕ} (hoff : off = ![st, d, k, 0, 0])
    (inb : ∀ a, off a + S1x1x1x128x512.size a ≤ S2x2x3x128x512.size a) (f : S2x2x3x128x512.Idx → F .f32) :
    ∀ i ∈ slotA st d k, (saM.access (Rect.unit (s := S2x2x3x128x512) off S1x1x1x128x512.size inb)).write (Elt F) f (stAV m c st d k) Finset.univ i = stA m c i := by
  intro i hi
  refine write_at (saM.access (Rect.unit (s := S2x2x3x128x512) off S1x1x1x128x512.size inb)) f (stAV m c st d k) i ?_ (stA m c) ?_
  · rw [set_sa hoff]; exact hi
  subst hoff; intro j
  have h0 : (j 0).val < 1 := (j 0).isLt
  have h1 : (j 1).val < 1 := (j 1).isLt
  have h2 : (j 2).val < 1 := (j 2).isLt
  show _ = accA m (d + 1 * (j 1).val) (k + 1 * (j 2).val) c
    (blkRow (d + 1 * (j 1).val) c (k + 1 * (j 2).val) + (0 + 1 * (j 3).val)) (512 * (st + 1 * (j 0).val) + (0 + 1 * (j 4).val))
  rw [show (j 0).val = 0 by omega, show (j 1).val = 0 by omega, show (j 2).val = 0 by omega]
  simp only [Nat.mul_zero, Nat.add_zero, Nat.one_mul, Nat.zero_add]
  rfl

theorem write_sb (c : Dev nD) {st d k : ℕ} {off : Fin 5 → ℕ} (hoff : off = ![st, d, k, 0, 0])
    (inb : ∀ a, off a + S1x1x1x32x512.size a ≤ S2x2x3x32x512.size a) (f : S2x2x3x32x512.Idx → F .f32) :
    ∀ i ∈ slotB st d k, (sbM.access (Rect.unit (s := S2x2x3x32x512) off S1x1x1x32x512.size inb)).write (Elt F) f (stBV m c st d k) Finset.univ i = stB m c i := by
  intro i hi
  refine write_at (sbM.access (Rect.unit (s := S2x2x3x32x512) off S1x1x1x32x512.size inb)) f (stBV m c st d k) i ?_ (stB m c) ?_
  · rw [set_sb hoff]; exact hi
  subst hoff; intro j
  have h0 : (j 0).val < 1 := (j 0).isLt
  have h1 : (j 1).val < 1 := (j 1).isLt
  have h2 : (j 2).val < 1 := (j 2).isLt
  show _ = accB m (d + 1 * (j 1).val) (k + 1 * (j 2).val) c
    (chRow (d + 1 * (j 1).val) c (k + 1 * (j 2).val) + (0 + 1 * (j 3).val)) (512 * (st + 1 * (j 0).val) + (0 + 1 * (j 4).val))
  rw [show (j 0).val = 0 by omega, show (j 1).val = 0 by omega, show (j 2).val = 0 by omega]
  simp only [Nat.mul_zero, Nat.add_zero, Nat.one_mul, Nat.zero_add]
  rfl

theorem write_oA (c : Dev nD) {st d : ℕ} (hd : d < 2) {off : Fin 2 → ℕ} (hoff : off = ![blkRow d c 3, 512 * st])
    (inb : ∀ a, off a + S128x512.size a ≤ S1024x1024.size a) (f : S1024x1024.Idx → F .f32) :
    ∀ i ∈ rows (blkRow d c 3) 128 st, (oM.access (Rect.unit (s := S1024x1024) off S128x512.size inb)).write (Elt F) f (oAV m c st d) Finset.univ i = outA m c i := by
  intro i hi
  refine write_at (oM.access (Rect.unit (s := S1024x1024) off S128x512.size inb)) f (oAV m c st d) i ?_ (outA m c) ?_
  · rw [set_o128 hoff]; exact hi
  subst hoff; intro j
  have h0 : (j 0).val < 128 := (j 0).isLt
  show _ = accA m (dirOf (blkRow d c 3 + 1 * (j 0).val)) 3 c (blkRow d c 3 + 1 * (j 0).val) (512 * st + 1 * (j 1).val)
  rw [Nat.one_mul, Nat.one_mul, dirOf_blk hd c 3 h0]; rfl

theorem write_oF (c : Dev nD) {st d : ℕ} (hd : d < 2) {off : Fin 2 → ℕ} (hoff : off = ![chRow d c 3, 512 * st])
    (inb : ∀ a, off a + S32x512.size a ≤ S1024x1024.size a) (f : S1024x1024.Idx → F .f32) :
    ∀ i ∈ rows (chRow d c 3) 32 st, (oM.access (Rect.unit (s := S1024x1024) off S32x512.size inb)).write (Elt F) f (resV m c st d) Finset.univ i = resC m i := by
  intro i hi
  refine write_at (oM.access (Rect.unit (s := S1024x1024) off S32x512.size inb)) f (resV m c st d) i ?_ (resC m) ?_
  · rw [set_o32 hoff]; exact hi
  subst hoff; intro j
  have h0 : (j 0).val < 32 := (j 0).isLt
  show _ = accB m (dirOf (chRow d c 3 + 1 * (j 0).val)) 3 (owner (chRow d c 3 + 1 * (j 0).val)) (chRow d c 3 + 1 * (j 0).val) (512 * st + 1 * (j 1).val)
  rw [Nat.one_mul, Nat.one_mul, dirOf_ch hd c 3 h0, owner_ch hd c h0]; rfl

/-! ### What the copies leave -/

/-- A slot copied into the slot of the same place on the next device. -/
theorem copy_A (c : Dev nD) {st d k : ℕ} {off off' : Fin 5 → ℕ} (hoff : off = ![st, d, k, 0, 0]) (hoff' : off' = ![st, d, k, 0, 0])
    (inb : ∀ a, off a + S1x1x1x128x512.size a ≤ S2x2x3x128x512.size a) (inb' : ∀ a, off' a + S1x1x1x128x512.size a ≤ S2x2x3x128x512.size a)
    (f : S2x2x3x128x512.Idx → F .f32) :
    ∀ i ∈ slotA st d k, (raW off' inb').view.write (Elt F) f ((saW off inb).view.read (Elt F) (stA m c)) Finset.univ i = rcA m (tgtP d c) i := by
  intro i hi
  have hset := set_raW hoff' inb'
  have h1 : (i 1).val = d := (mem_slotA.mp hi).2.1
  refine (write_at (raW off' inb').view f ((saW off inb).view.read (Elt F) (stA m c)) i (hset ▸ hi) (stA m c) ?_).trans ?_
  · subst hoff; subst hoff'; intro j; rfl
  · unfold rcA; rw [h1, backP_tgtP]

/-- A slot copied into the slot of the same place on the next device. -/
theorem copy_B (c : Dev nD) {st d k : ℕ} {off off' : Fin 5 → ℕ} (hoff : off = ![st, d, k, 0, 0]) (hoff' : off' = ![st, d, k, 0, 0])
    (inb : ∀ a, off a + S1x1x1x32x512.size a ≤ S2x2x3x32x512.size a) (inb' : ∀ a, off' a + S1x1x1x32x512.size a ≤ S2x2x3x32x512.size a)
    (f : S2x2x3x32x512.Idx → F .f32) :
    ∀ i ∈ slotB st d k, (rbW off' inb').view.write (Elt F) f ((sbW off inb).view.read (Elt F) (stB m c)) Finset.univ i = rcB m (tgtZ d c) i := by
  intro i hi
  have hset := set_rbW hoff' inb'
  have h1 : (i 1).val = d := (mem_slotB.mp hi).2.1
  refine (write_at (rbW off' inb').view f ((sbW off inb).view.read (Elt F) (stB m c)) i (hset ▸ hi) (stB m c) ?_).trans ?_
  · subst hoff; subst hoff'; intro j; rfl
  · unfold rcB; rw [h1, backZ_tgtZ]

/-- Rows of the result copied onto the same rows. -/
theorem copy_o32 {off off' : Fin 2 → ℕ} (hoff : off' = off)
    (inb : ∀ a, off a + S32x512.size a ≤ S1024x1024.size a) (inb' : ∀ a, off' a + S32x512.size a ≤ S1024x1024.size a)
    (f g : S1024x1024.Idx → F .f32) :
    ∀ i ∈ (oV32 off' inb').view.set, (oV32 off' inb').view.write (Elt F) f ((oV32 off inb).view.read (Elt F) g) Finset.univ i = g i := by
  intro i hi
  exact write_at (oV32 off' inb').view f ((oV32 off inb).view.read (Elt F) g) i hi g (by subst hoff; intro j; rfl)

/-- Rows of the result copied onto the same rows. -/
theorem copy_o128 {off off' : Fin 2 → ℕ} (hoff : off' = off)
    (inb : ∀ a, off a + S128x512.size a ≤ S1024x1024.size a) (inb' : ∀ a, off' a + S128x512.size a ≤ S1024x1024.size a)
    (f g : S1024x1024.Idx → F .f32) :
    ∀ i ∈ (oV128 off' inb').view.set, (oV128 off' inb').view.write (Elt F) f ((oV128 off inb).view.read (Elt F) g) Finset.univ i = g i := by
  intro i hi
  exact write_at (oV128 off' inb').view f ((oV128 off inb).view.read (Elt F) g) i hi g (by subst hoff; intro j; rfl)

end Cert.KernelIdeal.AllReduce
-- ==== Proof.Proto.lean ====
/-
# The resources of the protocol

The kernel runs four lanes: for each of two column streams `st` and each of two directions `d` it carries twelve hops, three
in each of four phases. The lanes share no buffer region and no semaphore. This module names the pieces that a lane holds
while it proceeds (atoms), what each step of a lane takes and gives, and which pieces a transfer hands to the receiver.
-/
module

public import proofs.«01_k».proof.Proof.Regions
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ### Buffer pieces -/

/-- Elements `S` of device `c`'s first send buffer. -/
def saPt (c : Dev nD) (S : Finset S2x2x3x128x512.Idx) (f : S2x2x3x128x512.Idx → F .f32) : sProp 𝕄 :=
  ((c : Thread nD τ).loc cc0_scratch0) ↦[S]{fullShare} f
/-- Elements `S` of device `c`'s first landing buffer. -/
def raPt (c : Dev nD) (S : Finset S2x2x3x128x512.Idx) (f : S2x2x3x128x512.Idx → F .f32) : sProp 𝕄 :=
  ((c : Thread nD τ).loc cc0_scratch1) ↦[S]{fullShare} f
/-- Elements `S` of device `c`'s second send buffer. -/
def sbPt (c : Dev nD) (S : Finset S2x2x3x32x512.Idx) (f : S2x2x3x32x512.Idx → F .f32) : sProp 𝕄 :=
  ((c : Thread nD τ).loc cc0_scratch2) ↦[S]{fullShare} f
/-- Elements `S` of device `c`'s second landing buffer. -/
def rbPt (c : Dev nD) (S : Finset S2x2x3x32x512.Idx) (f : S2x2x3x32x512.Idx → F .f32) : sProp 𝕄 :=
  ((c : Thread nD τ).loc cc0_scratch3) ↦[S]{fullShare} f
/-- Elements `S` of device `c`'s result buffer, at share `q`. -/
def oPt (q : PosShare TreeShare) (c : Dev nD) (S : Finset S1024x1024.Idx) (f : S1024x1024.Idx → F .f32) : sProp 𝕄 :=
  ((c : Thread nD τ).loc cc0_stg1_0) ↦[S]{q} f
/-- Device `c`'s block of the argument, staged. -/
def xPts (c : Dev nD) : sProp 𝕄 := ((c : Thread nD τ).loc cc0_stg0_0) ↦{fullShare} xstg m c

/-! ### Cells -/

/-- The flat number of the send semaphore of lane `(st, d)`, hop `h`. -/
def qS (st d h : ℕ) : ℕ := 2 + 24 * (h / 3) + 6 * st + 3 * d + h % 3
/-- The send semaphore of lane `(st, d)`, hop `h`. -/
def sS (st d h : ℕ) : DmaSem sig := (⟨qS st d h % 98, Nat.mod_lt _ (by decide)⟩ : Fin 98)
/-- The receive semaphore of lane `(st, d)`, hop `h`. -/
def sR (st d h : ℕ) : DmaSem sig := (⟨(qS st d h + 12) % 98, Nat.mod_lt _ (by decide)⟩ : Fin 98)
/-- The barrier semaphore. -/
abbrev barS : Sem sig := (SemArray.scalar (sig.barrier 0 rfl) : Sems sig S_).sem

abbrev sCell (c : Dev nD) (st d h : ℕ) : GSem nD τ sig := ((c : Thread nD τ), .dma (sS st d h))
abbrev rCell (c : Dev nD) (st d h : ℕ) : GSem nD τ sig := ((c : Thread nD τ), .dma (sR st d h))
abbrev barCell (c : Dev nD) : GSem nD τ sig := ((c : Thread nD τ), .reg barS)

/-- The receiver of hop `h` in direction `d`: inside the plane in the first and last phase, across the planes between. -/
def tgt (d h : ℕ) (c : Dev nD) : Dev nD := if h / 3 = 0 ∨ h / 3 = 3 then tgtP d c else tgtZ d c

/-- The credit of a copy of 128 rows. -/
abbrev N128 : ℕ := (saW ![0, 0, 0, 0, 0] (by decide)).view.dmaCredit
/-- The credit of a copy of 32 rows. -/
abbrev N32 : ℕ := (sbW ![0, 0, 0, 0, 0] (by decide)).view.dmaCredit
theorem N128_pos : 0 < N128 := View.dmaCredit_pos _ (by decide)
theorem N32_pos : 0 < N32 := View.dmaCredit_pos _ (by decide)
/-- The credit of hop `h`. -/
def amt (h : ℕ) : ℕ := if h / 3 = 0 ∨ h / 3 = 3 then N128 else N32
theorem amt_pos (h : ℕ) : 0 < amt h := by unfold amt; split; exacts [N128_pos, N32_pos]

/-! ### Atoms -/

/-- The pieces of memory of a lane. -/
inductive MA where
  /-- a free slot of the first send buffer; the same filled; the slot of the first landing buffer filled; the receiver's free -/
  | au (k : ℕ) | av (k : ℕ) | ra (k : ℕ) | da (k : ℕ)
  /-- the same for the second pair of buffers -/
  | bu (k : ℕ) | bv (k : ℕ) | rb (k : ℕ) | db (k : ℕ)
  /-- the free rows of the half block that this device reduces -/
  | xb
  /-- a free chunk of the result, on the device `i` steps before this one -/
  | x (i k : ℕ)
  /-- a chunk of this device's half block with the plane's sum; the two shares of a chunk of the final values -/
  | oa (k : ℕ) | ol (k : ℕ) | orr (k : ℕ)
  /-- one share of this device's half block, a received half block, a free half block of the receiver -/
  | br | bf (k : ℕ) | dd (k : ℕ)
  deriving DecidableEq

/-- What an atom of lane `(st, d)` of device `c` stands for. -/
def denM (c : Dev nD) (st d : ℕ) : MA → sProp 𝕄
  | .au k => iprop(∃ f, saPt c (slotA st d k) f)
  | .av k => saPt c (slotA st d k) (stA m c)
  | .ra k => raPt c (slotA st d k) (rcA m c)
  | .da k => iprop(∃ f, raPt (tgtP d c) (slotA st d k) f)
  | .bu k => iprop(∃ f, sbPt c (slotB st d k) f)
  | .bv k => sbPt c (slotB st d k) (stB m c)
  | .rb k => rbPt c (slotB st d k) (rcB m c)
  | .db k => iprop(∃ f, rbPt (tgtZ d c) (slotB st d k) f)
  | .xb => iprop(∃ f, oPt fullShare c (rows (blkRow d c 3) 128 st) f)
  | .x i k => iprop(∃ f, oPt fullShare ((backZ d)^[i] c) (rows (chRow d ((backZ d)^[i] c) k) 32 st) f)
  | .oa k => oPt fullShare c (rows (chRow d c k) 32 st) (outA m c)
  | .ol k => oPt fullShare.left c (rows (chRow d c k) 32 st) (resC m)
  | .orr k => oPt fullShare.right c (rows (chRow d c k) 32 st) (resC m)
  | .br => oPt fullShare.right c (rows (blkRow d c 3) 128 st) (resC m)
  | .bf k => oPt fullShare c (rows (blkRow d c k) 128 st) (resC m)
  | .dd k => iprop(∃ f, oPt fullShare (tgtP d c) (rows (blkRow d (tgtP d c) k) 128 st) f)

instance denM_storable (c : Dev nD) (st d : ℕ) (a : MA) : BI.Storable (upEmb : UEmb _ 𝕄) (denM m c st d a) := by
  cases a <;> (simp only [denM, saPt, raPt, sbPt, rbPt, oPt]; infer_instance)

/-- Everything a lane holds: pieces of memory, and for each hop its tokens, its position at the send cell, its position and
    credit at the receive cell, its position and credit at the send cell, the send cell at zero, the receive cell at zero. -/
inductive LA where
  | m (a : MA) | tk (h : ℕ) | sp (h : ℕ) | rp (h : ℕ) | fs (h : ℕ) | zs (h : ℕ) | zr (h : ℕ)
  deriving DecidableEq

/-- What a lane's item stands for. -/
def denA (c : Dev nD) (st d : ℕ) : LA → sProp 𝕄
  | .m a => denM m c st d a
  | .tk h => iprop(dutyTok ER (sCell c st d h) 0 0 ∗ dutyTok ER (rCell (tgt d h c) st d h) 0 0)
  | .sp h => atPos ER (sCell c st d h) 0 ∅ 0
  | .rp h => iprop(atPos ER (rCell c st d h) 0 ∅ 0 ∗ cred (tallyAt (rCell c st d h) () (amt h)))
  | .fs h => iprop(atPos ER (sCell c st d h) 0 ∅ 0 ∗ cred (tallyAt (sCell c st d h) () (amt h)))
  | .zs h => semVal (sCell c st d h) 0
  | .zr h => semVal (rCell c st d h) 0

/-! ### Lists of pieces -/

/-- The separating conjunction of what the members of a list stand for. -/
def sepL {α : Type} (den : α → sProp 𝕄) : List α → sProp 𝕄
  | [] => iprop(emp)
  | a :: l => iprop(den a ∗ sepL den l)

omit [FloatOps F] in
theorem sepL_append {α : Type} (den : α → sProp 𝕄) (l₁ l₂ : List α) : sepL den (l₁ ++ l₂) = iprop(sepL den l₁ ∗ sepL den l₂) := by
  induction l₁ with
  | nil => show sepL den l₂ = iprop(emp ∗ sepL den l₂); exact (equiv_iff.mp BI.emp_sep).symm
  | cons a l ih => show iprop(den a ∗ sepL den (l ++ l₂)) = iprop((den a ∗ sepL den l) ∗ sepL den l₂); rw [ih]; exact (equiv_iff.mp ⟨BI.sep_assoc, BI.sep_assoc'⟩).symm

omit [FloatOps F] in
theorem sepL_perm {α : Type} (den : α → sProp 𝕄) {l₁ l₂ : List α} (h : l₁.Perm l₂) : sepL den l₁ = sepL den l₂ := by
  induction h with
  | nil => rfl
  | cons a _ ih => show iprop(den a ∗ sepL den _) = iprop(den a ∗ sepL den _); rw [ih]
  | swap a b l =>
    show iprop(den b ∗ den a ∗ sepL den l) = iprop(den a ∗ den b ∗ sepL den l)
    exact equiv_iff.mp ⟨BI.sep_assoc'.trans ((BI.sep_mono_l BI.sep_comm).trans BI.sep_assoc),
      BI.sep_assoc'.trans ((BI.sep_mono_l BI.sep_comm).trans BI.sep_assoc)⟩
  | trans _ _ h₁ h₂ => exact h₁.trans h₂

omit [FloatOps F] in
theorem sepL_map {α β : Type} (den : β → sProp 𝕄) (f : α → β) (l : List α) : sepL den (l.map f) = sepL (fun a => den (f a)) l := by
  induction l with
  | nil => rfl
  | cons a l ih => show iprop(den (f a) ∗ sepL den (l.map f)) = _; rw [ih]; rfl

instance sepL_storable {α : Type} (den : α → sProp 𝕄) [h : ∀ a, BI.Storable (upEmb : UEmb _ 𝕄) (den a)] (l : List α) :
    BI.Storable (upEmb : UEmb _ 𝕄) (sepL den l) := by
  induction l with
  | nil => show BI.Storable upEmb iprop(emp); infer_instance
  | cons a l ih => show BI.Storable upEmb iprop(den a ∗ sepL den l); infer_instance

abbrev denL (c : Dev nD) (st d : ℕ) (l : List LA) : sProp 𝕄 := sepL (denA m c st d) l
abbrev denML (c : Dev nD) (st d : ℕ) (l : List MA) : sProp 𝕄 := sepL (denM m c st d) l

theorem denL_map (c : Dev nD) (st d : ℕ) (l : List MA) : denL m c st d (l.map .m) = denML m c st d l := sepL_map _ _ _

/-! ### What the transfers carry -/

/-- The source of hop `h`: it comes back with the send cell. -/
def src : ℕ → List MA
  | 0 => [.av 0] | 1 => [.av 1] | 2 => [.av 2]
  | 3 => [.bv 0] | 4 => [.bv 1] | 5 => [.bv 2]
  | 6 => [.ol 3] | 7 => [.ol 0] | 8 => [.ol 1]
  | 9 => [.br] | 10 => [.bf 0] | 11 => [.bf 1]
  | _ => []

/-- What the sender of hop `h` gives besides: the destination first, then chunks of the result passed on. -/
def sendIn : ℕ → List MA
  | 0 => [.da 0] | 1 => [.da 1] | 2 => [.da 2]
  | 3 => [.db 0, .x 0 0] | 4 => [.db 1, .x 0 1, .x 1 0] | 5 => [.db 2, .x 0 2, .x 1 1, .x 2 0]
  | 6 => [.x 3 0, .x 1 2, .x 2 1] | 7 => [.x 3 1, .x 2 2] | 8 => [.x 3 2]
  | 9 => [.dd 0] | 10 => [.dd 1] | 11 => [.dd 2]
  | _ => []

/-- What the receiver of hop `h` gets. -/
def recvOut : ℕ → List MA
  | 0 => [.ra 0] | 1 => [.ra 1] | 2 => [.ra 2]
  | 3 => [.rb 0, .x 1 0] | 4 => [.rb 1, .x 1 1, .x 2 0] | 5 => [.rb 2, .x 1 2, .x 2 1, .x 3 0]
  | 6 => [.ol 0, .orr 0, .x 2 2, .x 3 1] | 7 => [.ol 1, .orr 1, .x 3 2] | 8 => [.ol 2, .orr 2]
  | 9 => [.bf 0] | 10 => [.bf 1] | 11 => [.bf 2]
  | _ => []

/-! ### The steps of a lane -/

/-- The steps of a lane: fill the first send slot from the argument, send, receive, combine after a hop, fill the first slot
    of the second send buffer, the last combination, put the shares of the half block together, wait for a send. -/
inductive Kd where
  | prepA | send (h : ℕ) | recv (h : ℕ) | finA (k : ℕ) | finA2 | prepB | finB (k : ℕ) | finB2 | join | wsend (h : ℕ)
  deriving DecidableEq

/-- A lane's steps in their order. -/
def kinds : List Kd :=
  [.prepA, .send 0, .recv 0, .finA 0, .send 1, .recv 1, .finA 1, .send 2, .recv 2, .finA2,
   .prepB, .send 3, .recv 3, .finB 0, .send 4, .recv 4, .finB 1, .send 5, .recv 5, .finB2,
   .send 6, .recv 6, .send 7, .recv 7, .send 8, .recv 8, .join, .send 9, .recv 9, .send 10, .recv 10, .send 11, .recv 11,
   .wsend 0, .wsend 1, .wsend 2, .wsend 3, .wsend 4, .wsend 5, .wsend 6, .wsend 7, .wsend 8, .wsend 9, .wsend 10, .wsend 11]

/-- What a step takes. -/
def pre : Kd → List LA
  | .prepA => [.m (.au 0)]
  | .send h => .tk h :: .sp h :: ((src h).map .m ++ (sendIn h).map .m)
  | .recv h => [.rp h]
  | .finA k => [.m (.au (k + 1))]
  | .finA2 => [.m .xb]
  | .prepB => [.m (.bu 0), .m (.oa 0)]
  | .finB k => [.m (.bu (k + 1)), .m (.oa (k + 1))]
  | .finB2 => [.m (.oa 3)]
  | .join => [.m (.orr 0), .m (.orr 1), .m (.orr 2), .m (.orr 3)]
  | .wsend h => [.fs h]

/-- What a step gives. -/
def post : Kd → List LA
  | .prepA => [.m (.av 0)]
  | .send h => [.fs h]
  | .recv h => .zr h :: (recvOut h).map .m
  | .finA k => [.m (.av (k + 1))]
  | .finA2 => [.m (.oa 0), .m (.oa 1), .m (.oa 2), .m (.oa 3)]
  | .prepB => [.m (.bv 0), .m (.x 0 0)]
  | .finB k => [.m (.bv (k + 1)), .m (.x 0 (k + 1))]
  | .finB2 => [.m (.ol 3), .m (.orr 3)]
  | .join => [.m .br]
  | .wsend h => .zs h :: (src h).map .m

/-- The numbers of the hops. -/
def hops : List ℕ := [0, 1, 2, 3, 4, 5, 6, 7, 8, 9, 10, 11]

/-- What the first handshake brings a lane: the free places of its receivers. -/
def handed : List MA := [.da 0, .da 1, .da 2, .dd 0, .dd 1, .dd 2, .db 0, .db 1, .db 2]

/-- What a lane has of its own before the handshake. -/
def own0 : List LA :=
  [.m (.au 0), .m (.au 1), .m (.au 2), .m (.bu 0), .m (.bu 1), .m (.bu 2), .m .xb] ++ hops.map .tk ++ hops.map .sp ++ hops.map .rp

/-- What a lane holds after its first `n` steps. -/
def laneAtoms (n : ℕ) : List LA := (kinds.take n).foldl (fun A k => post k ++ A.diff (pre k)) (handed.map .m ++ own0)

/-- What a lane holds at the end. -/
def final : List LA :=
  [.m (.av 0), .m (.av 1), .m (.av 2), .m (.ra 0), .m (.ra 1), .m (.ra 2), .m (.bv 0), .m (.bv 1), .m (.bv 2),
    .m (.rb 0), .m (.rb 1), .m (.rb 2), .m (.ol 0), .m (.ol 1), .m (.ol 2), .m (.ol 3), .m .br, .m (.bf 0), .m (.bf 1), .m (.bf 2)]
    ++ hops.map .zs ++ hops.map .zr

theorem laneAtoms_succ {n : ℕ} {k : Kd} (h : kinds[n]? = some k) : laneAtoms (n + 1) = post k ++ (laneAtoms n).diff (pre k) := by
  unfold laneAtoms
  rw [List.take_add_one, h, Option.toList_some, List.foldl_append]; rfl

set_option maxRecDepth 100000 in
theorem pre_le : ∀ n < 45, ∀ k ∈ kinds[n]?, (pre k).Subperm (laneAtoms n) := by decide +kernel

set_option maxRecDepth 100000 in
theorem laneAtoms_final : (laneAtoms 45).Perm final := by decide +kernel

theorem lane_open (c : Dev nD) (st d : ℕ) {n : ℕ} {k : Kd} (h : kinds[n]? = some k) :
    denL m c st d (laneAtoms n) = iprop(denL m c st d (pre k) ∗ denL m c st d ((laneAtoms n).diff (pre k))) := by
  have hn : n < 45 := by
    by_contra hc
    rw [List.getElem?_eq_none (by show kinds.length ≤ n; have : kinds.length = 45 := rfl; omega)] at h
    cases h
  rw [← sepL_append]
  refine (sepL_perm _ ?_).symm
  have hs := pre_le n hn k (by rw [h]; rfl)
  exact List.subperm_append_diff_self_of_count_le fun x _ => hs.count_le x

theorem lane_close (c : Dev nD) (st d : ℕ) {n : ℕ} {k : Kd} (h : kinds[n]? = some k) :
    denL m c st d (laneAtoms (n + 1)) = iprop(denL m c st d (post k) ∗ denL m c st d ((laneAtoms n).diff (pre k))) := by
  rw [laneAtoms_succ h]; exact sepL_append _ _ _

theorem lane_peek (c : Dev nD) (st d : ℕ) {n : ℕ} {a : LA} (h : a ∈ laneAtoms n) :
    denL m c st d (laneAtoms n) = iprop(denA m c st d a ∗ denL m c st d ((laneAtoms n).erase a)) :=
  sepL_perm _ (List.perm_cons_erase h)

end Cert.KernelIdeal.AllReduce
-- ==== Proof.Sched.lean ====
/-
# The schedule of the protocol

Every cell has one round. A send cell's payload is the source of its transfer, a receive cell's what the transfer brings, a
barrier cell's four payloads the free places of the four neighbours. This module states that schedule, what a device owes
while it proceeds, and the levels by which every wait is allowed.
-/
module

public import proofs.«01_k».proof.Proof.Proto

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### Reading a semaphore's number -/

def stOf (n : ℕ) : ℕ := ((n - 2) % 12) / 6
def dOf (n : ℕ) : ℕ := ((n - 2) % 6) / 3
def hOf (n : ℕ) : ℕ := 3 * ((n - 2) / 24) + (n - 2) % 3
def rcv (n : ℕ) : ℕ := ((n - 2) / 12) % 2

section Decode
variable {st d h : ℕ} (hst : st < 2) (hd : d < 2) (hh : h < 12)
include hst hd hh

theorem sS_val : (sS st d h).val = qS st d h := by
  show qS st d h % 98 = _; unfold qS; omega
theorem sR_val : (sR st d h).val = qS st d h + 12 := by
  show (qS st d h + 12) % 98 = _; unfold qS; omega
theorem two_le_sS : 2 ≤ (sS st d h).val := by rw [sS_val hst hd hh]; unfold qS; omega
theorem two_le_sR : 2 ≤ (sR st d h).val := by rw [sR_val hst hd hh]; unfold qS; omega
theorem stOf_S : stOf (sS st d h).val = st := by rw [sS_val hst hd hh]; unfold stOf qS; omega
theorem stOf_R : stOf (sR st d h).val = st := by rw [sR_val hst hd hh]; unfold stOf qS; omega
theorem dOf_S : dOf (sS st d h).val = d := by rw [sS_val hst hd hh]; unfold dOf qS; omega
theorem dOf_R : dOf (sR st d h).val = d := by rw [sR_val hst hd hh]; unfold dOf qS; omega
theorem hOf_S : hOf (sS st d h).val = h := by rw [sS_val hst hd hh]; unfold hOf qS; omega
theorem hOf_R : hOf (sR st d h).val = h := by rw [sR_val hst hd hh]; unfold hOf qS; omega
theorem rcv_S : rcv (sS st d h).val = 0 := by
  rw [sS_val hst hd hh]; unfold rcv qS
  rw [show (2 + 24 * (h / 3) + 6 * st + 3 * d + h % 3 - 2) / 12 = 2 * (h / 3) from by omega]; omega
theorem rcv_R : rcv (sR st d h).val = 1 := by
  rw [sR_val hst hd hh]; unfold rcv qS
  rw [show (2 + 24 * (h / 3) + 6 * st + 3 * d + h % 3 + 12 - 2) / 12 = 2 * (h / 3) + 1 from by omega]; omega

end Decode

/-! ### The schedule -/

/-- The pieces of a lane that come with a signal: with the first two those of the plane's neighbour, then those across. -/
def barAtoms (i : Fin 4) : List MA := if i.val < 2 then [.da 0, .da 1, .da 2, .dd 0, .dd 1, .dd 2] else [.db 0, .db 1, .db 2]

/-- The payload of signal `i` to device `n`: for both streams, the free places of `n`'s receiver in direction `i % 2`. -/
def barPay (n : Dev nD) (i : Fin 4) : sProp 𝕄 :=
  iprop(denML m n 0 (i.val % 2) (barAtoms i) ∗ denML m n 1 (i.val % 2) (barAtoms i))

/-- The payload of a cell. -/
def pay (c : Dev nD) (i : Fin 4) : SemLoc sig → sProp 𝕄
  | .reg _ => barPay m c i
  | .dma q => if rcv q.val = 1 then denML m c (stOf q.val) (dOf q.val) (recvOut (hOf q.val))
      else denML m c (stOf q.val) (dOf q.val) (src (hOf q.val))

/-- The duties of a cell. -/
def dut : SemLoc sig → Finset (Fin 4)
  | .reg _ => Finset.univ
  | .dma q => if 2 ≤ q.val then {0} else ∅

/-- The units of a duty. -/
def units : SemLoc sig → ℕ
  | .reg _ => 1
  | .dma q => amt (hOf q.val)

def Rd : Rounds.Schedule (GSem nD τ sig) (Fin 4) 𝕄 where
  duties g r := if r = 0 ∧ g.1.2 = .tc then dut g.2 else ∅
  unitless _ := False
  amount g _ _ := units g.2
  payload g _ i := pay m g.1.1 i g.2
  amount_pos g _ _ _ := by
    show 0 < units g.2
    cases g.2
    · exact Nat.one_pos
    · exact amt_pos _

instance pay_storable (c : Dev nD) (i : Fin 4) (sm : SemLoc sig) : BI.Storable (upEmb : UEmb _ 𝕄) (pay m c i sm) := by
  cases sm with
  | reg s => simp only [pay, barPay]; infer_instance
  | dma q => simp only [pay]; split <;> infer_instance

instance Rd_payload_storable (g : GSem nD τ sig) (r : ℕ) (i : Fin 4) :
    BI.Storable (upEmb : UEmb _ 𝕄) ((Rd (F := F) m).payload g r i) := pay_storable m g.1.1 i g.2

theorem duties_later (g : GSem nD τ sig) : ∀ r, 1 ≤ r → (Rd (F := F) m).duties g r = ∅ :=
  fun r hr => if_neg fun h => by omega
theorem duties_bar (c : Dev nD) : (Rd (F := F) m).duties (barCell c) 0 = Finset.univ := by
  dsimp only [Rd]; exact if_pos ⟨rfl, rfl⟩
theorem duties_dma (c : Dev nD) (q : DmaSem sig) (hq : 2 ≤ q.val) : (Rd (F := F) m).duties ((c : Thread nD τ), .dma q) 0 = {0} := by
  dsimp only [Rd]; exact (if_pos ⟨rfl, rfl⟩).trans (if_pos hq)
theorem expect_bar (c : Dev nD) : (Rd (F := F) m).expect (barCell c) 0 = 4 := by
  unfold Schedule.expect Schedule.amountOf
  rw [duties_bar]; rfl
theorem expect_dma (c : Dev nD) (q : DmaSem sig) (hq : 2 ≤ q.val) :
    (Rd (F := F) m).expect ((c : Thread nD τ), .dma q) 0 = amt (hOf q.val) := by
  unfold Schedule.expect Schedule.amountOf
  rw [duties_dma m c q hq, Finset.sum_singleton]; rfl

section Lane
variable (c : Dev nD) {st d h : ℕ} (hst : st < 2) (hd : d < 2) (hh : h < 12)
include hst hd hh

theorem amount_S : (Rd (F := F) m).amount (sCell c st d h) 0 0 = amt h := by
  show amt (hOf (sS st d h).val) = _; rw [hOf_S hst hd hh]
theorem amount_R : (Rd (F := F) m).amount (rCell c st d h) 0 0 = amt h := by
  show amt (hOf (sR st d h).val) = _; rw [hOf_R hst hd hh]
theorem payload_S (i : Fin 4) : (Rd (F := F) m).payload (sCell c st d h) 0 i = denML m c st d (src h) := by
  show (if rcv (sS st d h).val = 1 then _ else _) = _
  rw [if_neg (by rw [rcv_S hst hd hh]; decide), stOf_S hst hd hh, dOf_S hst hd hh, hOf_S hst hd hh]
theorem payload_R (i : Fin 4) : (Rd (F := F) m).payload (rCell c st d h) 0 i = denML m c st d (recvOut h) := by
  show (if rcv (sR st d h).val = 1 then _ else _) = _
  rw [if_pos (rcv_R hst hd hh), stOf_R hst hd hh, dOf_R hst hd hh, hOf_R hst hd hh]
theorem rest_S : bigSep ((Rd (F := F) m).duties (sCell c st d h) 0 \ ∅) (fun i => (Rd (F := F) m).payload (sCell c st d h) 0 i)
    = denML m c st d (src h) := by
  rw [Finset.sdiff_empty, duties_dma m c _ (two_le_sS hst hd hh), bigSep_singleton, payload_S m c hst hd hh]
theorem rest_R : bigSep ((Rd (F := F) m).duties (rCell c st d h) 0 \ ∅) (fun i => (Rd (F := F) m).payload (rCell c st d h) 0 i)
    = denML m c st d (recvOut h) := by
  rw [Finset.sdiff_empty, duties_dma m c _ (two_le_sR hst hd hh), bigSep_singleton, payload_R m c hst hd hh]

end Lane

theorem rest_bar (c : Dev nD) : bigSep ((Rd (F := F) m).duties (barCell c) 0 \ ∅) (fun i => (Rd (F := F) m).payload (barCell c) 0 i)
    = iprop(barPay m c 0 ∗ barPay m c 1 ∗ barPay m c 2 ∗ barPay m c 3) := by
  rw [Finset.sdiff_empty, duties_bar, bigSep_univ_eq_bigSepL [0, 1, 2, 3] (by decide) (by decide)]; rfl

/-! ### What a device owes -/

/-- The sends in the order of the program: stream, direction, hop. -/
def sendOrder : List (ℕ × ℕ × ℕ) :=
  [(0, 0, 0), (0, 1, 0), (0, 0, 1), (0, 1, 1), (1, 0, 0), (1, 1, 0), (0, 0, 2), (0, 1, 2),
   (1, 0, 1), (1, 1, 1), (0, 0, 3), (0, 1, 3), (1, 0, 2), (1, 1, 2), (0, 0, 4), (0, 1, 4),
   (1, 0, 3), (1, 1, 3), (0, 0, 5), (0, 1, 5), (1, 0, 4), (1, 1, 4), (0, 0, 6), (0, 1, 6),
   (1, 0, 5), (1, 1, 5), (0, 0, 7), (0, 1, 7), (1, 0, 6), (1, 1, 6), (0, 0, 8), (0, 1, 8),
   (1, 0, 7), (1, 1, 7), (0, 0, 9), (0, 1, 9), (1, 0, 8), (1, 1, 8), (0, 0, 10), (0, 1, 10),
   (1, 0, 9), (1, 1, 9), (0, 0, 11), (0, 1, 11), (1, 0, 10), (1, 1, 10), (1, 0, 11), (1, 1, 11)]

/-- What a device adds to other devices' cells, in the order in which it does. -/
def items (c : Dev nD) : List (GSem nD τ sig × ℕ) :=
  (barCell (tgtP 0 c), 1) :: (barCell (tgtP 1 c), 1) :: (barCell (tgtZ 0 c), 1) :: (barCell (tgtZ 1 c), 1)
    :: sendOrder.map fun x => (rCell (tgt x.2.1 x.2.2 c) x.1 x.2.1 x.2.2, amt x.2.2)

/-- The tallies owed by a list of additions to come. -/
def owedL (l : List (GSem nD τ sig × ℕ)) : CellTallies nD τ sig Unit := l.foldr (fun x O => O + tallyAt x.1 () x.2) 0

/-- What device `c` owes after its first `k` additions. -/
def owed (c : Dev nD) (k : ℕ) : CellTallies nD τ sig Unit := owedL ((items c).drop k)

theorem owed_end (c : Dev nD) : owed c 52 = 0 := rfl

theorem owed_step (c : Dev nD) {k : ℕ} {x : GSem nD τ sig × ℕ} (h : (items c)[k]? = some x) :
    owed c k = owed c (k + 1) + tallyAt x.1 () x.2 := by
  obtain ⟨hk, hx⟩ := List.getElem?_eq_some_iff.mp h
  unfold owed
  rw [List.drop_eq_getElem_cons hk, hx]; rfl

theorem owedL_pos {l : List (GSem nD τ sig × ℕ)} {g : GSem nD τ sig} {u : Unit} (h : 0 < owedL l g u) : ∃ x ∈ l, g = x.1 := by
  induction l with
  | nil => exact absurd h (Nat.lt_irrefl 0)
  | cons x l ih =>
    unfold owedL at h ih
    rw [List.foldr_cons, Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-! ### Levels -/

def L (g : GSem nD τ sig) : Finset Unit := if g.1.2 = .tc then {()} else ∅
/-- The level of a cell: the barrier at 1, a receive cell by the step at which it is waited for, the others at 0. -/
def lvS : SemLoc sig → ℕ
  | .reg _ => 1
  | .dma q => if 2 ≤ q.val ∧ rcv q.val = 1 then 2 + hOf q.val + stOf q.val else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_S {st d h : ℕ} (hst : st < 2) (hd : d < 2) (hh : h < 12) : lvS (.dma (sS st d h)) = 0 :=
  if_neg fun h' => by rw [rcv_S hst hd hh] at h'; exact absurd h'.2 (by decide)
theorem lvS_R {st d h : ℕ} (hst : st < 2) (hd : d < 2) (hh : h < 12) : lvS (.dma (sR st d h)) = 2 + h + st := by
  show (if _ then _ else _) = _
  rw [if_pos ⟨two_le_sR hst hd hh, rcv_R hst hd hh⟩, hOf_R hst hd hh, stOf_R hst hd hh]

/-- The levels of the additions. -/
def itemLv : List ℕ := 1 :: 1 :: 1 :: 1 :: sendOrder.map fun x => 2 + x.2.2 + x.1

theorem sendOrder_lt : ∀ x ∈ sendOrder, x.1 < 2 ∧ x.2.1 < 2 ∧ x.2.2 < 12 := by decide +kernel

theorem items_lv (c : Dev nD) : (items c).map (fun x => lv x.1 ()) = itemLv := by
  unfold items itemLv
  rw [List.map_cons, List.map_cons, List.map_cons, List.map_cons, List.map_map]
  have h : sendOrder.map ((fun x : GSem nD τ sig × ℕ => lv x.1 ()) ∘ fun x => (rCell (tgt x.2.1 x.2.2 c) x.1 x.2.1 x.2.2, amt x.2.2))
      = sendOrder.map fun x => 2 + x.2.2 + x.1 :=
    List.map_congr_left fun x hx => lvS_R (sendOrder_lt x hx).1 (sendOrder_lt x hx).2.1 (sendOrder_lt x hx).2.2
  rw [h]; rfl

theorem items_tc (c : Dev nD) : ∀ x ∈ items c, x.1.1.2 = .tc := by
  intro x hx
  unfold items at hx
  simp only [List.mem_cons, List.mem_map] at hx
  rcases hx with rfl | rfl | rfl | rfl | ⟨y, -, rfl⟩ <;> rfl

omit [FloatOps F] in
/-- A device may wait at a cell whose level is below those of everything that it still owes. -/
theorem mayWait (c : Dev nD) (sm : SemLoc sig) (k : ℕ) (h : ∀ l ∈ itemLv.drop k, lvS sm < l) :
    (levAts L lv : sProp 𝕄) ⊢ MayWait (c : Thread nD τ) sm () (owed c k) := by
  have key : ∀ (g : GSem nD τ sig) (u : Unit), 0 < owed c k g u → u ∈ L g ∧ lvS sm < lv g u := by
    intro g u hg
    obtain ⟨x, hx, rfl⟩ := owedL_pos hg
    refine ⟨?_, ?_⟩
    · unfold L; rw [if_pos (items_tc c x (List.mem_of_mem_drop hx))]; exact Finset.mem_singleton_self _
    · refine h _ ?_
      rw [← items_lv c, ← List.map_drop]
      exact List.mem_map_of_mem hx
  exact MayOwe.of_cut (L := L) (lev := lv) (lvS sm)
    (fun p hp => by rw [Finset.mem_singleton.mp hp, L_tc]; exact Finset.mem_singleton_self _)
    (fun g u hg => (key g u hg).1)
    (fun p hp => by rw [Finset.mem_singleton.mp hp]; exact Nat.le_refl _)
    (fun g u hg => (key g u hg).2)

/-! ### All cells -/

/-- The cells of a device by number: the transfers' and the barrier's. -/
def csem (k : Fin 97) : SemLoc sig := if h : k.val < 96 then .dma (⟨k.val + 2, by omega⟩ : Fin 98) else .reg barS
abbrev kcell (ck : Dev nD × Fin 97) : GSem nD τ sig := ((ck.1 : Thread nD τ), csem ck.2)

theorem csem_bar : csem 96 = .reg barS := rfl
theorem csem_dma (q : DmaSem sig) (hq : 2 ≤ q.val) : ∃ k, csem k = .dma q := by
  have hq' : q.val < 98 := q.isLt
  refine ⟨⟨q.val - 2, by omega⟩, ?_⟩
  unfold csem
  rw [dif_pos (by show q.val - 2 < 96; omega)]
  exact congrArg SemLoc.dma (Fin.ext (by show q.val - 2 + 2 = q.val; omega))

variable (K : Dev nD × Fin 97 → ℕ)

/-- The facts that every device works with: the invariants of all cells, that their first rounds are open, the levels. -/
def env : sProp 𝕄 :=
  iprop((bigSep Finset.univ fun ck : Dev nD × Fin 97 => cellInv ER (Rd m) (K ck) (kcell ck))
    ∗ (bigSep Finset.univ fun ck : Dev nD × Fin 97 => reached ER (kcell ck) 0) ∗ levAts L lv)

instance env_persistent : BI.Persistent (env m K) := by unfold env; infer_instance

theorem env_lev : env m K ⊢ levAts L lv := by
  unfold env; iintro ⟨-, -, #H⟩; iexact H

theorem env_at (ck : Dev nD × Fin 97) : env m K ⊢ iprop(cellInv ER (Rd m) (K ck) (kcell ck) ∗ reached ER (kcell ck) 0) := by
  have h1 : (bigSep Finset.univ fun ck : Dev nD × Fin 97 => (cellInv ER (Rd m) (K ck) (kcell ck) : sProp 𝕄)) ⊢ cellInv ER (Rd m) (K ck) (kcell ck) :=
    bigSep_elim (Finset.mem_univ ck)
  have h2 : (bigSep Finset.univ fun ck : Dev nD × Fin 97 => (reached ER (kcell ck) 0 : sProp 𝕄)) ⊢ reached ER (kcell ck) 0 :=
    bigSep_elim (Finset.mem_univ ck)
  unfold env; iintro ⟨#H1, #H2, -⟩
  isplitr
  · iapply h1; iexact H1
  · iapply h2; iexact H2

/-- The invariant and the opened round of a transfer's cell. -/
theorem env_dma (c : Dev nD) (q : DmaSem sig) (hq : 2 ≤ q.val) :
    ∃ κ, env m K ⊢ iprop(cellInv ER (Rd m) κ ((c : Thread nD τ), .dma q) ∗ reached ER ((c : Thread nD τ), .dma q) 0) := by
  obtain ⟨k, hk⟩ := csem_dma q hq
  refine ⟨K (c, k), ?_⟩
  have := env_at m K (c, k)
  rwa [show kcell (c, k) = ((c : Thread nD τ), .dma q) from by unfold kcell; rw [hk]] at this

/-- The invariant and the opened round of a barrier cell. -/
theorem env_bar (c : Dev nD) :
    ∃ κ, env m K ⊢ iprop(cellInv ER (Rd m) κ (barCell c) ∗ reached ER (barCell c) 0) :=
  ⟨K (c, 96), env_at m K (c, 96)⟩

end Cert.KernelIdeal.AllReduce
-- ==== Proof.Triple.lean ====
/-
# Triples

A form of the program logic that fits a long straight program: from a state, a program ends in another state with a value of
which a fact is known. The rules here are those for sequencing, for framing, and for stepping one lane of a device's state.
-/
module

public import proofs.«01_k».proof.Proof.Sched

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 97 → ℕ)

abbrev 𝒱₀ : Variants := Variants.none

/-- A program of a device's core. -/
abbrev PrgF (F : FTy → Type) [FloatOps F] (α : Type) : Type 1 := Prog (TpuEff nD τ sig (Elt F) Λ₀ .tc) α

/-- From `P`, program `p` on device `c` ends in `P'` with a value satisfying `R`. -/
def HT (c : Dev nD) {α : Type} (P : sProp 𝕄) (p : PrgF F α) (R : α → Prop) (P' : sProp 𝕄) : Prop :=
  ∀ Q : α → sProp 𝕄, iprop(env m K ∗ P ∗ (∀ v, ⌜R v⌝ -∗ P' -∗ Q v))
    ⊢ wp frame (wpE (defs₀ (F := F)) 𝒱₀ (c : Thread nD τ) none) Set.univ p Q

/-- The continuation of a triple at one value. -/
theorem kont {α : Type} {R : α → Prop} {P' : sProp 𝕄} {Q : α → sProp 𝕄} (v : α) (hv : R v) :
    (iprop(∀ v, ⌜R v⌝ -∗ P' -∗ Q v) : sProp 𝕄) ⊢ iprop(P' -∗ Q v) := by
  iintro Hk HP
  iapply Hk $$ %v [] HP
  ipureintro; exact hv

variable {m K} {c : Dev nD}

theorem ht_pure {α : Type} {P : sProp 𝕄} {R : α → Prop} (v : α) (hv : R v) : HT m K c P (pure v : PrgF F α) R P := by
  intro Q
  iintro ⟨-, HP, Hk⟩
  ihave Hk' := (kont (F := F) v hv) $$ Hk
  rw [Prog.pure_eq_ret, wp_ret]; imodintro
  iapply Hk'; iexact HP

theorem ht_bind {α β : Type} {P P' P'' : sProp 𝕄} {p : PrgF F α} {k : α → PrgF F β} {R : α → Prop} {R' : β → Prop}
    (h : HT m K c P p R P') (hk : ∀ v, R v → HT m K c P' (k v) R' P'') : HT m K c P (p >>= k) R' P'' := by
  intro Q
  rw [wp_bind]
  refine BIBase.Entails.trans ?_ (h fun a => wp frame (wpE (defs₀ (F := F)) 𝒱₀ (c : Thread nD τ) none) Set.univ (k a) Q)
  iintro ⟨#He, HP, Hk⟩
  isplitr; · iexact He
  isplitl [HP]; · iexact HP
  iintro %v %hv HP'
  iapply (hk v hv Q)
  isplitr; · iexact He
  isplitl [HP'] <;> iassumption

theorem ht_frame {α : Type} {P P' X : sProp 𝕄} {p : PrgF F α} {R : α → Prop} (h : HT m K c P p R P') :
    HT m K c iprop(P ∗ X) p R iprop(P' ∗ X) := by
  intro Q
  refine BIBase.Entails.trans ?_ (h Q)
  iintro ⟨#He, ⟨HP, HX⟩, Hk⟩
  isplitr; · iexact He
  isplitl [HP]; · iexact HP
  iintro %v %hv HP'
  ihave Hk' := (kont (F := F) v hv) $$ Hk
  iapply Hk'
  isplitl [HP'] <;> iassumption

theorem ht_conseq {α : Type} {P₀ P P' P₁ : sProp 𝕄} {p : PrgF F α} {R : α → Prop} (h₀ : P₀ ⊢ P) (h : HT m K c P p R P') (h₁ : P' ⊢ P₁) :
    HT m K c P₀ p R P₁ := by
  intro Q
  refine BIBase.Entails.trans ?_ (h Q)
  iintro ⟨#He, HP, Hk⟩
  isplitr; · iexact He
  isplitl [HP]; · iapply h₀; iexact HP
  iintro %v %hv HP'
  ihave Hk' := (kont (F := F) v hv) $$ Hk
  iapply Hk'; iapply h₁; iexact HP'

theorem ht_pre {α : Type} {P₀ P P' : sProp 𝕄} {p : PrgF F α} {R : α → Prop} (h₀ : P₀ ⊢ P) (h : HT m K c P p R P') : HT m K c P₀ p R P' :=
  ht_conseq h₀ h (Entails.refl _)

/-! ### A device's state -/

/-- How far each of the four lanes is. -/
abbrev Cnt : Type := ℕ × ℕ × ℕ × ℕ

def get : ℕ → ℕ → Cnt → ℕ
  | 0, 0, N => N.1
  | 0, _, N => N.2.1
  | _, 0, N => N.2.2.1
  | _, _, N => N.2.2.2

def bump : ℕ → ℕ → Cnt → Cnt
  | 0, 0, N => (N.1 + 1, N.2.1, N.2.2.1, N.2.2.2)
  | 0, _, N => (N.1, N.2.1 + 1, N.2.2.1, N.2.2.2)
  | _, 0, N => (N.1, N.2.1, N.2.2.1 + 1, N.2.2.2)
  | _, _, N => (N.1, N.2.1, N.2.2.1, N.2.2.2 + 1)

variable (m)

/-- Device `c` still owes `O`. -/
def owesE (c : Dev nD) (O : CellTallies nD τ sig Unit) : sProp 𝕄 := iprop(∃ W, owes (c : Thread nD τ) O W)

/-- A lane after its first `n` steps. -/
def lane (c : Dev nD) (st d n : ℕ) : sProp 𝕄 := denL m c st d (laneAtoms n)

/-- A device's state after the handshake: its lanes, its staged argument, its barrier cell at zero, what it owes. -/
def St (c : Dev nD) (N : Cnt) (k : ℕ) : sProp 𝕄 :=
  iprop(lane m c 0 0 N.1 ∗ lane m c 0 1 N.2.1 ∗ lane m c 1 0 N.2.2.1 ∗ lane m c 1 1 N.2.2.2 ∗ (xPts m c ∗ semVal (barCell c) 0)
    ∗ owesE c (owed c k))

/-- A device's state without lane `(st, d)` and what it owes. -/
def oth (c : Dev nD) (N : Cnt) : ℕ → ℕ → sProp 𝕄
  | 0, 0 => iprop(lane m c 0 1 N.2.1 ∗ lane m c 1 0 N.2.2.1 ∗ lane m c 1 1 N.2.2.2 ∗ (xPts m c ∗ semVal (barCell c) 0))
  | 0, _ => iprop(lane m c 0 0 N.1 ∗ lane m c 1 0 N.2.2.1 ∗ lane m c 1 1 N.2.2.2 ∗ (xPts m c ∗ semVal (barCell c) 0))
  | _, 0 => iprop(lane m c 0 0 N.1 ∗ lane m c 0 1 N.2.1 ∗ lane m c 1 1 N.2.2.2 ∗ (xPts m c ∗ semVal (barCell c) 0))
  | _, _ => iprop(lane m c 0 0 N.1 ∗ lane m c 0 1 N.2.1 ∗ lane m c 1 0 N.2.2.1 ∗ (xPts m c ∗ semVal (barCell c) 0))

theorem St_split (N : Cnt) (k : ℕ) {st d : ℕ} (hst : st < 2) (hd : d < 2) :
    St m c N k ⊢ iprop((lane m c st d (get st d N) ∗ owesE c (owed c k)) ∗ oth m c N st d) := by
  unfold St
  interval_cases st <;> interval_cases d <;> simp only [oth, get]
  · iintro ⟨H0, H1, H2, H3, Hx, Ho⟩
    isplitl [H0 Ho]; · isplitl [H0] <;> iassumption
    isplitl [H1]; · iexact H1
    isplitl [H2]; · iexact H2
    isplitl [H3] <;> iassumption
  · iintro ⟨H0, H1, H2, H3, Hx, Ho⟩
    isplitl [H1 Ho]; · isplitl [H1] <;> iassumption
    isplitl [H0]; · iexact H0
    isplitl [H2]; · iexact H2
    isplitl [H3] <;> iassumption
  · iintro ⟨H0, H1, H2, H3, Hx, Ho⟩
    isplitl [H2 Ho]; · isplitl [H2] <;> iassumption
    isplitl [H0]; · iexact H0
    isplitl [H1]; · iexact H1
    isplitl [H3] <;> iassumption
  · iintro ⟨H0, H1, H2, H3, Hx, Ho⟩
    isplitl [H3 Ho]; · isplitl [H3] <;> iassumption
    isplitl [H0]; · iexact H0
    isplitl [H1]; · iexact H1
    isplitl [H2] <;> iassumption

theorem St_join (N : Cnt) (k : ℕ) {st d : ℕ} (hst : st < 2) (hd : d < 2) :
    iprop((lane m c st d (get st d N) ∗ owesE c (owed c k)) ∗ oth m c N st d) ⊢ St m c N k := by
  unfold St
  interval_cases st <;> interval_cases d <;> simp only [oth, get]
  · iintro ⟨⟨H0, Ho⟩, H1, H2, H3, Hx⟩
    isplitl [H0]; · iexact H0
    isplitl [H1]; · iexact H1
    isplitl [H2]; · iexact H2
    isplitl [H3]; · iexact H3
    isplitl [Hx] <;> iassumption
  · iintro ⟨⟨H1, Ho⟩, H0, H2, H3, Hx⟩
    isplitl [H0]; · iexact H0
    isplitl [H1]; · iexact H1
    isplitl [H2]; · iexact H2
    isplitl [H3]; · iexact H3
    isplitl [Hx] <;> iassumption
  · iintro ⟨⟨H2, Ho⟩, H0, H1, H3, Hx⟩
    isplitl [H0]; · iexact H0
    isplitl [H1]; · iexact H1
    isplitl [H2]; · iexact H2
    isplitl [H3]; · iexact H3
    isplitl [Hx] <;> iassumption
  · iintro ⟨⟨H3, Ho⟩, H0, H1, H2, Hx⟩
    isplitl [H0]; · iexact H0
    isplitl [H1]; · iexact H1
    isplitl [H2]; · iexact H2
    isplitl [H3]; · iexact H3
    isplitl [Hx] <;> iassumption

theorem St_bump (N : Cnt) (k : ℕ) {st d : ℕ} (hst : st < 2) (hd : d < 2) :
    iprop((lane m c st d (get st d N + 1) ∗ owesE c (owed c k)) ∗ oth m c N st d) ⊢ St m c (bump st d N) k := by
  unfold St
  interval_cases st <;> interval_cases d <;> simp only [oth, get, bump]
  · iintro ⟨⟨H0, Ho⟩, H1, H2, H3, Hx⟩
    isplitl [H0]; · iexact H0
    isplitl [H1]; · iexact H1
    isplitl [H2]; · iexact H2
    isplitl [H3]; · iexact H3
    isplitl [Hx] <;> iassumption
  · iintro ⟨⟨H1, Ho⟩, H0, H2, H3, Hx⟩
    isplitl [H0]; · iexact H0
    isplitl [H1]; · iexact H1
    isplitl [H2]; · iexact H2
    isplitl [H3]; · iexact H3
    isplitl [Hx] <;> iassumption
  · iintro ⟨⟨H2, Ho⟩, H0, H1, H3, Hx⟩
    isplitl [H0]; · iexact H0
    isplitl [H1]; · iexact H1
    isplitl [H2]; · iexact H2
    isplitl [H3]; · iexact H3
    isplitl [Hx] <;> iassumption
  · iintro ⟨⟨H3, Ho⟩, H0, H1, H2, Hx⟩
    isplitl [H0]; · iexact H0
    isplitl [H1]; · iexact H1
    isplitl [H2]; · iexact H2
    isplitl [H3]; · iexact H3
    isplitl [Hx] <;> iassumption

variable {m}

/-- A step of lane `(st, d)` is a step of the device. -/
theorem ht_lane {α : Type} {p : PrgF F α} {R : α → Prop} {N : Cnt} {k k' st d : ℕ} (hst : st < 2) (hd : d < 2) {kd : Kd}
    (hk : kinds[get st d N]? = some kd)
    (h : HT m K c iprop(denL m c st d (pre kd) ∗ owesE c (owed c k)) p R iprop(denL m c st d (post kd) ∗ owesE c (owed c k'))) :
    HT m K c (St m c N k) p R (St m c (bump st d N) k') := by
  refine ht_conseq (St_split m N k hst hd)
    (ht_frame (X := oth m c N st d) (ht_conseq ?_ (ht_frame (X := denL m c st d ((laneAtoms (get st d N)).diff (pre kd))) h)
      (P₁ := iprop(lane m c st d (get st d N + 1) ∗ owesE c (owed c k'))) ?_)) (St_bump m N k' hst hd)
  · unfold lane; rw [lane_open m c st d hk]
    iintro ⟨⟨H1, H2⟩, Ho⟩
    isplitl [H1 Ho]; · isplitl [H1] <;> iassumption
    iexact H2
  · unfold lane; rw [lane_close m c st d hk]
    iintro ⟨⟨H1, Ho⟩, H2⟩
    isplitr [Ho]; · isplitl [H1] <;> iassumption
    iexact Ho

/-- A step that only looks at one piece of lane `(st, d)`. -/
theorem ht_peek {α : Type} {p : PrgF F α} {R : α → Prop} {N : Cnt} {k st d : ℕ} (hst : st < 2) (hd : d < 2) (a : LA)
    (ha : a ∈ laneAtoms (get st d N)) (h : HT m K c (denA m c st d a) p R (denA m c st d a)) :
    HT m K c (St m c N k) p R (St m c N k) := by
  refine ht_conseq (St_split m N k hst hd)
    (ht_frame (X := oth m c N st d) (ht_conseq ?_ (ht_frame (X := iprop(denL m c st d ((laneAtoms (get st d N)).erase a) ∗ owesE c (owed c k))) h)
      (P₁ := iprop(lane m c st d (get st d N) ∗ owesE c (owed c k))) ?_)) (St_join m N k hst hd)
  · unfold lane; rw [lane_peek m c st d ha]
    iintro ⟨⟨H1, H2⟩, Ho⟩
    isplitl [H1]; · iexact H1
    isplitl [H2] <;> iassumption
  · unfold lane; rw [lane_peek m c st d ha]
    iintro ⟨H1, H2, Ho⟩
    isplitr [Ho]; · isplitl [H1] <;> iassumption
    iexact Ho

/-- A step of a lane that no operation of the program makes. -/
theorem ht_ghost {α : Type} {p : PrgF F α} {R : α → Prop} {N : Cnt} {k st d : ℕ} {P' : sProp 𝕄} (hst : st < 2) (hd : d < 2) (kd : Kd)
    (hk : kinds[get st d N]? = some kd) (hg : denL m c st d (pre kd) ⊢ denL m c st d (post kd))
    (h : HT m K c (St m c (bump st d N) k) p R P') : HT m K c (St m c N k) p R P' := by
  refine ht_pre ((St_split m N k hst hd).trans ((sep_mono_left ?_).trans (St_bump m N k hst hd))) h
  unfold lane; rw [lane_open m c st d hk, lane_close m c st d hk]
  iintro ⟨⟨H1, H2⟩, Ho⟩
  isplitr [Ho]
  · isplitl [H1]
    · iapply hg; iexact H1
    · iexact H2
  · iexact Ho

/-- A step that only looks at the staged argument. -/
theorem ht_x {α : Type} {p : PrgF F α} {R : α → Prop} {N : Cnt} {k : ℕ} (h : HT m K c (xPts m c) p R (xPts m c)) :
    HT m K c (St m c N k) p R (St m c N k) := by
  refine ht_conseq ?_ (ht_frame (X := iprop(lane m c 0 0 N.1 ∗ lane m c 0 1 N.2.1 ∗ lane m c 1 0 N.2.2.1 ∗ lane m c 1 1 N.2.2.2
    ∗ semVal (barCell c) 0 ∗ owesE c (owed c k))) h) ?_ <;> unfold St
  · iintro ⟨H0, H1, H2, H3, ⟨Hx, Hz⟩, Ho⟩
    isplitl [Hx]; · iexact Hx
    isplitl [H0]; · iexact H0
    isplitl [H1]; · iexact H1
    isplitl [H2]; · iexact H2
    isplitl [H3]; · iexact H3
    isplitl [Hz] <;> iassumption
  · iintro ⟨Hx, H0, H1, H2, H3, Hz, Ho⟩
    isplitl [H0]; · iexact H0
    isplitl [H1]; · iexact H1
    isplitl [H2]; · iexact H2
    isplitl [H3]; · iexact H3
    isplitr [Ho]; · isplitl [Hx] <;> iassumption
    iexact Ho

end Cert.KernelIdeal.AllReduce
-- ==== Proof.Ops.lean ====
/-
# Loads and stores

What each kind of load and store of the program does to a device's state.
-/
module

public import proofs.«01_k».proof.Proof.Triple

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {K : Dev nD × Fin 97 → ℕ} {c : Dev nD}

/-! ### The rules -/

section Rules
variable {s : Shape} {e : EltTy} {M : Memref sig .tc .vmem s e} {r : Rect s}

/-- A load of a rectangle that is held. -/
theorem ht_load {hl : M.view.LoadsAt r.toLoadRect} {S : Finset (Idx ((M.access r).loc (c : Thread nD τ)))} {q : PosShare TreeShare}
    {f : Buf (Elt F) ((M.access r).loc (c : Thread nD τ))} (hS : (M.access r).set ⊆ S) :
    HT m K c ((M.access r).loc (c : Thread nD τ) ↦[S]{q} f) (Prog.lift (.load M r.toLoadRect hl))
      (fun v => v = M.view.readAt (Elt F) r.toLoadRect f) ((M.access r).loc (c : Thread nD τ) ↦[S]{q} f) := by
  intro Q
  iintro ⟨-, HP, Hk⟩
  simp only [Prog.lift]
  iapply (wp_load_rect 𝒱₀ (c : Thread nD τ) none Set.univ (m := M) hS) $$ HP
  iintro HP
  rw [wp_ret]; imodintro
  ihave Hk' := (kont (F := F) (R := fun v => v = M.view.readAt (Elt F) r.toLoadRect f) ((M.access r).read (Elt F) f) rfl) $$ Hk
  iapply Hk'; iexact HP

/-- A load of a rectangle that is held at unknown contents. -/
theorem ht_load_any {hl : M.view.LoadsAt r.toLoadRect} {S : Finset (Idx ((M.access r).loc (c : Thread nD τ)))} (hS : (M.access r).set ⊆ S) :
    HT m K c iprop(∃ f, (M.access r).loc (c : Thread nD τ) ↦[S]{fullShare} f) (Prog.lift (.load M r.toLoadRect hl))
      (fun _ => True) iprop(∃ f, (M.access r).loc (c : Thread nD τ) ↦[S]{fullShare} f) := by
  intro Q
  iintro ⟨-, ⟨%f, HP⟩, Hk⟩
  simp only [Prog.lift]
  iapply (wp_load_rect 𝒱₀ (c : Thread nD τ) none Set.univ (m := M) hS) $$ HP
  iintro HP
  rw [wp_ret]; imodintro
  ihave Hk' := (kont (F := F) (R := fun _ => True) ((M.access r).read (Elt F) f) trivial) $$ Hk
  iapply Hk'; iexists f; iexact HP

/-- A store over a rectangle that is held at unknown contents. -/
theorem ht_store {w : r.shape.Idx → Elt F e} {hx : (M.access r).Stores Finset.univ} {hm : (Finset.univ : Finset r.shape.Idx) = Finset.univ ∨ ∀ a, r.stride a = 1}
    {S : Finset (Idx ((M.access r).loc (c : Thread nD τ)))} (g : Buf (Elt F) ((M.access r).loc (c : Thread nD τ)))
    (hS : (M.access r).set ⊆ S) (hw : ∀ f : Buf (Elt F) ((M.access r).loc (c : Thread nD τ)), ∀ i ∈ S, (M.access r).write (Elt F) f w Finset.univ i = g i) :
    HT m K c iprop(∃ f, (M.access r).loc (c : Thread nD τ) ↦[S]{fullShare} f) (Prog.lift (.store M r w Finset.univ hx hm))
      (fun _ => True) ((M.access r).loc (c : Thread nD τ) ↦[S]{fullShare} g) := by
  intro Q
  iintro ⟨-, ⟨%f, HP⟩, Hk⟩
  simp only [Prog.lift]
  iapply (wp_store 𝒱₀ (c : Thread nD τ) none Set.univ (m := M) (r := r) (Mk := Finset.univ) (by rw [View.setOn_univ]; exact hS)) $$ HP
  iintro HP
  rw [wp_ret]; imodintro
  ihave Hk' := (kont (F := F) (R := fun _ => True) PUnit.unit trivial) $$ Hk
  iapply Hk'
  ihave HP' := (Entails.of_eq (pointsTo_congr (hw f))) $$ HP
  iexact HP'

end Rules

/-! ### Loads -/

variable {N : Cnt} {k st d : ℕ}

theorem ld_x (st d h : ℕ) {off : Fin 3 → ℕ} (hoff : off = ![0, blkRow d c h, 512 * st])
    {inb : ∀ a, off a + S1x128x512.size a ≤ S1x1024x1024.size a} {hl} :
    HT m K c (St m c N k) (Prog.lift (.load xM (Rect.unit (s := S1x1024x1024) off S1x128x512.size inb).toLoadRect hl))
      (fun v => v = xV m c st d h) (St m c N k) := by
  refine ht_x ?_
  have := ht_load (m := m) (K := K) (c := c) (M := xM) (r := Rect.unit (s := S1x1024x1024) off S1x128x512.size inb) (hl := hl)
    (S := Finset.univ) (q := fullShare) (f := xstg m c) (Finset.subset_univ _)
  rw [read_x m c hoff inb] at this
  exact this

theorem ld_ra (st d j : ℕ) (hst : st < 2) (hd : d < 2) (ha : LA.m (.ra j) ∈ laneAtoms (get st d N))
    {off : Fin 5 → ℕ} (hoff : off = ![st, d, j, 0, 0]) {inb : ∀ a, off a + S1x1x1x128x512.size a ≤ S2x2x3x128x512.size a} {hl} :
    HT m K c (St m c N k) (Prog.lift (.load raM (Rect.unit (s := S2x2x3x128x512) off S1x1x1x128x512.size inb).toLoadRect hl))
      (fun v => v = raV m c st d j) (St m c N k) := by
  refine ht_peek hst hd _ ha ?_
  have := ht_load (m := m) (K := K) (c := c) (M := raM) (r := Rect.unit (s := S2x2x3x128x512) off S1x1x1x128x512.size inb) (hl := hl)
    (S := slotA st d j) (q := fullShare) (f := rcA m c) (by rw [set_ra hoff])
  rw [read_ra m c hoff inb] at this
  exact this

theorem ld_rb (st d j : ℕ) (hst : st < 2) (hd : d < 2) (ha : LA.m (.rb j) ∈ laneAtoms (get st d N))
    {off : Fin 5 → ℕ} (hoff : off = ![st, d, j, 0, 0]) {inb : ∀ a, off a + S1x1x1x32x512.size a ≤ S2x2x3x32x512.size a} {hl} :
    HT m K c (St m c N k) (Prog.lift (.load rbM (Rect.unit (s := S2x2x3x32x512) off S1x1x1x32x512.size inb).toLoadRect hl))
      (fun v => v = rbV m c st d j) (St m c N k) := by
  refine ht_peek hst hd _ ha ?_
  have := ht_load (m := m) (K := K) (c := c) (M := rbM) (r := Rect.unit (s := S2x2x3x32x512) off S1x1x1x32x512.size inb) (hl := hl)
    (S := slotB st d j) (q := fullShare) (f := rcB m c) (by rw [set_rb hoff])
  rw [read_rb m c hoff inb] at this
  exact this

theorem ld_och (st d j : ℕ) (hst : st < 2) (hd : d < 2) (ha : LA.m (.oa j) ∈ laneAtoms (get st d N))
    {off : Fin 2 → ℕ} (hoff : off = ![chRow d c j, 512 * st]) {inb : ∀ a, off a + S32x512.size a ≤ S1024x1024.size a} {hl} :
    HT m K c (St m c N k) (Prog.lift (.load oM (Rect.unit (s := S1024x1024) off S32x512.size inb).toLoadRect hl))
      (fun v => v = ochV m c st d j) (St m c N k) := by
  refine ht_peek hst hd _ ha ?_
  have := ht_load (m := m) (K := K) (c := c) (M := oM) (r := Rect.unit (s := S1024x1024) off S32x512.size inb) (hl := hl)
    (S := rows (chRow d c j) 32 st) (q := fullShare) (f := outA m c) (by rw [set_o32 hoff])
  rw [read_och m c hd hoff inb] at this
  exact this

/-! ### Loads of what a store is about to replace -/

theorem dl_sa (st d j : ℕ) (hst : st < 2) (hd : d < 2) (ha : LA.m (.au j) ∈ laneAtoms (get st d N))
    {off : Fin 5 → ℕ} (hoff : off = ![st, d, j, 0, 0]) {inb : ∀ a, off a + S1x1x1x128x512.size a ≤ S2x2x3x128x512.size a} {hl} :
    HT m K c (St m c N k) (Prog.lift (.load saM (Rect.unit (s := S2x2x3x128x512) off S1x1x1x128x512.size inb).toLoadRect hl))
      (fun _ => True) (St m c N k) :=
  ht_peek hst hd _ ha (ht_load_any (M := saM) (r := Rect.unit (s := S2x2x3x128x512) off S1x1x1x128x512.size inb)
    (S := slotA st d j) (by rw [set_sa hoff]))

theorem dl_sb (st d j : ℕ) (hst : st < 2) (hd : d < 2) (ha : LA.m (.bu j) ∈ laneAtoms (get st d N))
    {off : Fin 5 → ℕ} (hoff : off = ![st, d, j, 0, 0]) {inb : ∀ a, off a + S1x1x1x32x512.size a ≤ S2x2x3x32x512.size a} {hl} :
    HT m K c (St m c N k) (Prog.lift (.load sbM (Rect.unit (s := S2x2x3x32x512) off S1x1x1x32x512.size inb).toLoadRect hl))
      (fun _ => True) (St m c N k) :=
  ht_peek hst hd _ ha (ht_load_any (M := sbM) (r := Rect.unit (s := S2x2x3x32x512) off S1x1x1x32x512.size inb)
    (S := slotB st d j) (by rw [set_sb hoff]))

theorem dl_oA (st d : ℕ) (hst : st < 2) (hd : d < 2) (ha : LA.m .xb ∈ laneAtoms (get st d N))
    {off : Fin 2 → ℕ} (hoff : off = ![blkRow d c 3, 512 * st]) {inb : ∀ a, off a + S128x512.size a ≤ S1024x1024.size a} {hl} :
    HT m K c (St m c N k) (Prog.lift (.load oM (Rect.unit (s := S1024x1024) off S128x512.size inb).toLoadRect hl))
      (fun _ => True) (St m c N k) :=
  ht_peek hst hd _ ha (ht_load_any (M := oM) (r := Rect.unit (s := S1024x1024) off S128x512.size inb)
    (S := rows (blkRow d c 3) 128 st) (by rw [set_o128 hoff]))

theorem dl_oF (st d : ℕ) (hst : st < 2) (hd : d < 2) (ha : LA.m (.oa 3) ∈ laneAtoms (get st d N))
    {off : Fin 2 → ℕ} (hoff : off = ![chRow d c 3, 512 * st]) {inb : ∀ a, off a + S32x512.size a ≤ S1024x1024.size a} {hl} :
    HT m K c (St m c N k) (Prog.lift (.load oM (Rect.unit (s := S1024x1024) off S32x512.size inb).toLoadRect hl))
      (fun _ => True) (St m c N k) := by
  refine ht_peek hst hd _ ha ?_
  have : HT m K c (denA m c st d (.m (.oa 3))) _ _ (denA m c st d (.m (.oa 3))) :=
    ht_load (m := m) (K := K) (c := c) (M := oM) (r := Rect.unit (s := S1024x1024) off S32x512.size inb) (hl := hl)
      (S := rows (chRow d c 3) 32 st) (q := fullShare) (f := outA m c) (by rw [set_o32 hoff])
  exact fun Q => BIBase.Entails.trans (by
    iintro ⟨#He, HP, Hk⟩
    isplitr; · iexact He
    isplitl [HP]; · iexact HP
    iintro %v - HP
    ihave Hk' := (kont (F := F) (R := fun _ => True) v trivial) $$ Hk
    iapply Hk'; iexact HP) (this Q)

/-! ### Chunks of a half block -/

/-- The rows of a half block are its four chunks. -/
theorem rows_chunks (q : PosShare TreeShare) (c c' : Dev nD) (st d : ℕ) (f : S1024x1024.Idx → F .f32) :
    oPt q c' (rows (blkRow d c 3) 128 st) f = iprop(oPt q c' (rows (chRow d c 0) 32 st) f ∗ oPt q c' (rows (chRow d c 1) 32 st) f
      ∗ oPt q c' (rows (chRow d c 2) 32 st) f ∗ oPt q c' (rows (chRow d c 3) 32 st) f) := by
  have hu : rows (blkRow d c 3) 128 st = (Finset.univ : Finset (Fin 4)).biUnion fun k => rows (chRow d c k.val) 32 st := by
    ext i
    rw [Finset.mem_biUnion, mem_rows]
    constructor
    · rintro ⟨⟨h1, h2⟩, h3⟩
      obtain ⟨b, hb⟩ : ∃ b, (i 0).val = blkRow d c 3 + b := ⟨(i 0).val - blkRow d c 3, by omega⟩
      have hk : ∃ k < 4, (c.val / 4 + k * rs d) % 4 = b / 32 := by
        rcases sg_cases d with ⟨-, e⟩ | ⟨-, e⟩ <;> rw [e]
        · exact ⟨(c.val / 4 + 3 * (b / 32) + 0) % 4 , by omega, by omega⟩
        · exact ⟨(3 * (c.val / 4) + (b / 32)) % 4, by omega, by omega⟩
      obtain ⟨k, hk, e⟩ := hk
      refine ⟨⟨k, hk⟩, Finset.mem_univ _, mem_rows.mpr ⟨?_, h3⟩⟩
      unfold chRow; dsimp only; rw [e]; omega
    · rintro ⟨k, -, hk⟩
      obtain ⟨⟨h1, h2⟩, h3⟩ := mem_rows.mp hk
      unfold chRow at h1 h2
      exact ⟨by omega, h3⟩
  have hdis : ∀ k ∈ (Finset.univ : Finset (Fin 4)), ∀ k' ∈ (Finset.univ : Finset (Fin 4)), k ≠ k' →
      Disjoint (rows (chRow d c k.val) 32 st) (rows (chRow d c k'.val) 32 st) := by
    intro k _ k' _ hne
    rw [Finset.disjoint_left]
    intro i hi hi'
    obtain ⟨⟨h1, h2⟩, -⟩ := mem_rows.mp hi
    obtain ⟨⟨h1', h2'⟩, -⟩ := mem_rows.mp hi'
    have hk := k.isLt
    have hk' := k'.isLt
    refine hne (Fin.ext ?_)
    unfold chRow at h1 h2 h1' h2'
    rcases sg_cases d with ⟨-, e⟩ | ⟨-, e⟩ <;> rw [e] at h1 h2 h1' h2' <;> omega
  have hh := pointsTo_biUnion (Ix := Unit) (Name := ℕ) (U := UU) (Lvl := ℕ) (Val := Elt F) (q := q) (ℓ := (c' : Thread nD τ).loc cc0_stg1_0) (f := f)
    Finset.univ (fun k : Fin 4 => rows (chRow d c k.val) 32 st) hdis
  unfold oPt
  rw [hu]
  refine hh.trans ?_
  rw [bigSep_univ_eq_bigSepL [0, 1, 2, 3] (by decide) (by decide)]; rfl

/-- The full share is its two halves. -/
theorem oPt_halves (c : Dev nD) (S : Finset S1024x1024.Idx) (f : S1024x1024.Idx → F .f32) :
    oPt fullShare c S f = iprop(oPt fullShare.left c S f ∗ oPt fullShare.right c S f) :=
  equiv_iff.mp ⟨(pointsTo_share (PosShare.mem_left_op_right _)).1, (pointsTo_share (PosShare.mem_left_op_right _)).2⟩

/-! ### Stores -/

variable {k' : ℕ}

theorem ht_one {α : Type} {p : PrgF F α} {R : α → Prop} {P P' X : sProp 𝕄} (h : HT m K c P p R P') :
    HT m K c iprop((P ∗ emp) ∗ X) p R iprop((P' ∗ emp) ∗ X) := ht_frame (ht_frame h)

theorem st_sa (kd : Kd) (st d j : ℕ) (hst : st < 2) (hd : d < 2) (hk : kinds[get st d N]? = some kd)
    (hpre : pre kd = [.m (.au j)]) (hpost : post kd = [.m (.av j)])
    {off : Fin 5 → ℕ} (hoff : off = ![st, d, j, 0, 0]) {inb : ∀ a, off a + S1x1x1x128x512.size a ≤ S2x2x3x128x512.size a}
    {w : S1x1x1x128x512.Idx → F .f32} (hw : w = stAV m c st d j) {hx hm} :
    HT m K c (St m c N k) (Prog.lift (.store saM (Rect.unit (s := S2x2x3x128x512) off S1x1x1x128x512.size inb) w Finset.univ hx hm))
      (fun _ => True) (St m c (bump st d N) k) := by
  subst hw
  refine ht_lane hst hd hk ?_
  rw [hpre, hpost]
  exact ht_one (ht_store (M := saM) (r := Rect.unit (s := S2x2x3x128x512) off S1x1x1x128x512.size inb) (S := slotA st d j)
    (stA m c) (by rw [set_sa hoff]) (write_sa m c hoff inb))

theorem st_oA (st d : ℕ) (hst : st < 2) (hd : d < 2) (hk : kinds[get st d N]? = some .finA2)
    {off : Fin 2 → ℕ} (hoff : off = ![blkRow d c 3, 512 * st]) {inb : ∀ a, off a + S128x512.size a ≤ S1024x1024.size a}
    {w : S128x512.Idx → F .f32} (hw : w = oAV m c st d) {hx hm} :
    HT m K c (St m c N k) (Prog.lift (.store oM (Rect.unit (s := S1024x1024) off S128x512.size inb) w Finset.univ hx hm))
      (fun _ => True) (St m c (bump st d N) k) := by
  subst hw
  refine ht_lane hst hd hk ?_
  refine ht_conseq (P' := iprop((oPt fullShare c (rows (blkRow d c 3) 128 st) (outA m c) ∗ emp) ∗ owesE c (owed c k))) (Entails.refl _) (ht_one (ht_store (M := oM)
    (r := Rect.unit (s := S1024x1024) off S128x512.size inb) (S := rows (blkRow d c 3) 128 st)
    (outA m c) (by rw [set_o128 hoff]) (write_oA m c hd hoff inb))) ?_
  rw [rows_chunks]
  show _ ⊢ iprop((oPt fullShare c (rows (chRow d c 0) 32 st) (outA m c) ∗ oPt fullShare c (rows (chRow d c 1) 32 st) (outA m c)
    ∗ oPt fullShare c (rows (chRow d c 2) 32 st) (outA m c) ∗ oPt fullShare c (rows (chRow d c 3) 32 st) (outA m c) ∗ emp) ∗ owesE c (owed c k))
  iintro ⟨⟨⟨H0, H1, H2, H3⟩, -⟩, Ho⟩
  isplitr [Ho]
  · isplitl [H0]; · iexact H0
    isplitl [H1]; · iexact H1
    isplitl [H2]; · iexact H2
    isplitl [H3]; · iexact H3
    iempintro
  · iexact Ho

theorem st_sb (kd : Kd) (st d j : ℕ) (hst : st < 2) (hd : d < 2) (hk : kinds[get st d N]? = some kd)
    (hpre : pre kd = [.m (.bu j), .m (.oa j)]) (hpost : post kd = [.m (.bv j), .m (.x 0 j)])
    {off : Fin 5 → ℕ} (hoff : off = ![st, d, j, 0, 0]) {inb : ∀ a, off a + S1x1x1x32x512.size a ≤ S2x2x3x32x512.size a}
    {w : S1x1x1x32x512.Idx → F .f32} (hw : w = stBV m c st d j) {hx hm} :
    HT m K c (St m c N k) (Prog.lift (.store sbM (Rect.unit (s := S2x2x3x32x512) off S1x1x1x32x512.size inb) w Finset.univ hx hm))
      (fun _ => True) (St m c (bump st d N) k) := by
  subst hw
  refine ht_lane hst hd hk ?_
  rw [hpre, hpost]
  refine ht_conseq (P := iprop((∃ f, sbPt c (slotB st d j) f) ∗ denM m c st d (.oa j) ∗ owesE c (owed c k)))
    (P' := iprop(sbPt c (slotB st d j) (stB m c) ∗ denM m c st d (.oa j) ∗ owesE c (owed c k))) ?_ (ht_frame (ht_store (M := sbM)
    (r := Rect.unit (s := S2x2x3x32x512) off S1x1x1x32x512.size inb) (S := slotB st d j)
    (stB m c) (by rw [set_sb hoff]) (write_sb m c hoff inb))) ?_
  · show iprop(((∃ f, sbPt c (slotB st d j) f) ∗ denM m c st d (.oa j) ∗ emp) ∗ owesE c (owed c k)) ⊢ _
    iintro ⟨⟨H0, H1, -⟩, Ho⟩
    isplitl [H0]; · iexact H0
    isplitl [H1] <;> iassumption
  · show _ ⊢ iprop((sbPt c (slotB st d j) (stB m c) ∗ (∃ f, oPt fullShare c (rows (chRow d c j) 32 st) f) ∗ emp) ∗ owesE c (owed c k))
    simp only [denM]
    iintro ⟨H0, H1, Ho⟩
    isplitr [Ho]
    · isplitl [H0]; · iexact H0
      isplitl [H1]; · iexists _; iexact H1
      iempintro
    · iexact Ho

theorem st_oF (st d : ℕ) (hst : st < 2) (hd : d < 2) (hk : kinds[get st d N]? = some .finB2)
    {off : Fin 2 → ℕ} (hoff : off = ![chRow d c 3, 512 * st]) {inb : ∀ a, off a + S32x512.size a ≤ S1024x1024.size a}
    {w : S32x512.Idx → F .f32} (hw : w = resV m c st d) {hx hm} :
    HT m K c (St m c N k) (Prog.lift (.store oM (Rect.unit (s := S1024x1024) off S32x512.size inb) w Finset.univ hx hm))
      (fun _ => True) (St m c (bump st d N) k) := by
  subst hw
  refine ht_lane hst hd hk ?_
  refine ht_conseq (P := iprop(((∃ f, oPt fullShare c (rows (chRow d c 3) 32 st) f) ∗ emp) ∗ owesE c (owed c k)))
    (P' := iprop((oPt fullShare c (rows (chRow d c 3) 32 st) (resC m) ∗ emp) ∗ owesE c (owed c k))) ?_ (ht_one (ht_store (M := oM)
    (r := Rect.unit (s := S1024x1024) off S32x512.size inb) (S := rows (chRow d c 3) 32 st)
    (resC m) (by rw [set_o32 hoff]) (write_oF m c hd hoff inb))) ?_
  · show iprop((oPt fullShare c (rows (chRow d c 3) 32 st) (outA m c) ∗ emp) ∗ owesE c (owed c k)) ⊢ _
    iintro ⟨⟨H0, -⟩, Ho⟩
    isplitr [Ho]
    · isplitl [H0]; · iexists _; iexact H0
      iempintro
    · iexact Ho
  · rw [oPt_halves]
    show _ ⊢ iprop((oPt fullShare.left c (rows (chRow d c 3) 32 st) (resC m) ∗ oPt fullShare.right c (rows (chRow d c 3) 32 st) (resC m) ∗ emp)
      ∗ owesE c (owed c k))
    iintro ⟨⟨⟨H0, H1⟩, -⟩, Ho⟩
    isplitr [Ho]
    · isplitl [H0]; · iexact H0
      isplitl [H1]; · iexact H1
      iempintro
    · iexact Ho

/-- The second shares of the four chunks are the second share of the half block. -/
theorem join_den (c : Dev nD) (st d : ℕ) : denL m c st d (pre .join) ⊢ denL m c st d (post .join) := by
  show iprop(oPt fullShare.right c (rows (chRow d c 0) 32 st) (resC m) ∗ oPt fullShare.right c (rows (chRow d c 1) 32 st) (resC m)
    ∗ oPt fullShare.right c (rows (chRow d c 2) 32 st) (resC m) ∗ oPt fullShare.right c (rows (chRow d c 3) 32 st) (resC m) ∗ emp)
    ⊢ iprop(oPt fullShare.right c (rows (blkRow d c 3) 128 st) (resC m) ∗ emp)
  rw [rows_chunks]
  iintro ⟨H0, H1, H2, H3, -⟩
  isplitl
  · isplitl [H0]; · iexact H0
    isplitl [H1]; · iexact H1
    isplitl [H2] <;> iassumption
  · iempintro

end Cert.KernelIdeal.AllReduce
-- ==== Proof.Xfer.lean ====
/-
# Transfers and waits

What each kind of remote copy and each kind of wait of the program does to a device's state.
-/
module

public import proofs.«01_k».proof.Proof.Ops

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {K : Dev nD × Fin 97 → ℕ} {c : Dev nD}
variable {N : Cnt} {k st d : ℕ}

/-! ### Sends -/

/-- A remote copy: the sender gives the source, the destination and further pieces `X`; the receiver will find the destination
    rewritten, and `X`. -/
theorem ht_send {s : Shape} {vS vD : Memref sig .tc .vmem s .f32} {n : Dev nD} {qs qr : DmaSem sig} {hsc hsrc hdst hsem}
    (st d h : ℕ) (hst : st < 2) (hd : d < 2) (hh : h < 12) (hn : n = tgt d h c) (hqs : qs = sS st d h) (hqr : qr = sR st d h)
    (hN : vD.view.amount (.dma qr) = amt h) (hk : kinds[get st d N]? = some (.send h))
    (hitem : (items c)[k]? = some (rCell (tgt d h c) st d h, amt h))
    {q : PosShare TreeShare} {fs : Buf (Elt F) (vS.view.loc (c : Thread nD τ))} {X : sProp 𝕄}
    (hsrc' : denML m c st d (src h) = iprop((vS.view.loc (c : Thread nD τ) ↦[vS.view.set]{q} fs) ∗ emp))
    (hin : denML m c st d (sendIn h) ⊢ iprop((∃ fd, vD.view.loc (n : Thread nD τ) ↦[vD.view.set]{fullShare} fd) ∗ X))
    (hout : ∀ fd, iprop((vD.view.loc (n : Thread nD τ) ↦[vD.view.set]{fullShare}
      (vD.view.write (Elt F) fd (vS.view.read (Elt F) fs) Finset.univ)) ∗ X) ⊢ denML m n st d (recvOut h)) :
    HT m K c (St m c N k)
      (Prog.lift (.enqueueDma vS (.remote (Dev.tc n) vD (.dma qs) hsc) (.dma qr) hsrc hdst hsem))
      (fun _ => True) (St m c (bump st d N) (k + 1)) := by
  subst hn hqs hqr
  refine ht_lane hst hd hk ?_
  show HT m K c _ _ _ iprop(((atPos ER (sCell c st d h) 0 ∅ 0 ∗ cred (tallyAt (sCell c st d h) () (amt h))) ∗ emp) ∗ owesE c (owed c (k + 1)))
  intro Q
  obtain ⟨κ₁, he₁⟩ := env_dma m K c (sS st d h) (two_le_sS hst hd hh)
  obtain ⟨κ₂, he₂⟩ := env_dma m K (tgt d h c) (sR st d h) (two_le_sR hst hd hh)
  have e : denL m c st d (pre (.send h)) = iprop((dutyTok ER (sCell c st d h) 0 0 ∗ dutyTok ER (rCell (tgt d h c) st d h) 0 0)
      ∗ atPos ER (sCell c st d h) 0 ∅ 0 ∗ denML m c st d (src h) ∗ denML m c st d (sendIn h)) := by
    show iprop(_ ∗ _ ∗ denL m c st d _) = _
    rw [show denL m c st d (List.map LA.m (src h) ++ List.map LA.m (sendIn h)) = iprop(denML m c st d (src h) ∗ denML m c st d (sendIn h))
      from (sepL_append _ _ _).trans (congrArg₂ BIBase.sep (denL_map m c st d _) (denL_map m c st d _))]
    rfl
  rw [e, hsrc']
  unfold owesE
  iintro ⟨#He, ⟨⟨⟨Ht1, Ht2⟩, Hat, ⟨Hs, -⟩, Hin⟩, ⟨%W, Ho⟩⟩, Hk⟩
  ihave H1 := he₁ $$ He
  icases H1 with ⟨#Hi1, #Hr1⟩
  ihave H2 := he₂ $$ He
  icases H2 with ⟨#Hi2, #Hr2⟩
  ihave Hin := hin $$ Hin
  icases Hin with ⟨⟨%fd, Hd⟩, HX⟩
  simp only [Prog.lift]
  iapply (Rounds.wp_send_pointsTo_with 𝒱₀ ER (Rd m) (c : Thread nD τ) none (κ₁ := κ₁) (κ₂ := κ₂) (r₁ := 0) (r₂ := 0) (d₁ := 0) (d₂ := 0)
    (fd := fd) (F := X)
    (by rw [duties_dma m c _ (two_le_sS hst hd hh)]; exact Finset.mem_singleton_self _)
    (by rw [duties_dma m (tgt d h c) _ (two_le_sR hst hd hh)]; exact Finset.mem_singleton_self _)
    () () (amt h) hN (amount_S m c hst hd hh) (amount_R m _ hst hd hh)
    (owed c (k + 1)) (owed_step c hitem)
    (by rw [payload_S m c hst hd hh, hsrc']; iintro H; isplitl [H]; · iexact H
        iempintro)
    (by rw [payload_R m _ hst hd hh]; exact hout fd)) $$ [Hs Hd HX Ho Ht1 Ht2]
  · isplitr; · iexact Hi1
    isplitr; · iexact Hi2
    isplitl [Hs]; · iexact Hs
    isplitl [Hd HX]; · isplitl [Hd] <;> iassumption
    isplitl [Ho]; · iexact Ho
    isplitl [Ht1]; · iexact Ht1
    isplitr; · iexact Hr1
    isplitl [Ht2]; · iexact Ht2
    iexact Hr2
  iintro ⟨Hc, Ho⟩
  rw [wp_ret]; imodintro
  ihave Hk' := (kont (F := F) (R := fun _ => True) PUnit.unit trivial) $$ Hk
  iapply Hk'
  isplitr [Ho]
  · isplitl
    · isplitl [Hat] <;> iassumption
    · iempintro
  · iexists W; iexact Ho

/-- What the receiver of a chunk calls it: it is one step further from the chunk's owner. -/
def shift : MA → MA
  | .x i k => .x (i + 1) k
  | a => a

theorem denM_shift (c : Dev nD) (st d i j : ℕ) (hd : d < 2) : denM m (tgtZ d c) st d (.x (i + 1) j) = denM m c st d (.x i j) := by
  simp only [denM]
  rw [Function.iterate_succ_apply, backZ_tgtZ]

theorem denML_shift (c : Dev nD) (st d : ℕ) (hd : d < 2) (l : List MA) (hl : ∀ a ∈ l, ∃ i j, a = .x i j) :
    denML m (tgtZ d c) st d (l.map shift) = denML m c st d l := by
  induction l with
  | nil => rfl
  | cons a l ih =>
    obtain ⟨i, j, rfl⟩ := hl a List.mem_cons_self
    show iprop(denM m (tgtZ d c) st d (.x (i + 1) j) ∗ _) = iprop(_ ∗ _)
    rw [denM_shift c st d i j hd]
    have := ih fun a ha => hl a (List.mem_cons_of_mem _ ha)
    unfold denML at this
    rw [this]

/-- The chunks passed on with hop `h`. -/
def passed (h : ℕ) : List MA := (sendIn h).tail

theorem passed_x : ∀ h < 9, ∀ a ∈ passed h, ∃ i j, a = .x i j := by
  intro h hh a ha
  interval_cases h <;> simp only [passed, sendIn, List.tail_cons, List.mem_cons, List.not_mem_nil, or_false] at ha
  all_goals first
    | exact ha.elim
    | (rcases ha with rfl | rfl | rfl <;> exact ⟨_, _, rfl⟩)
    | (rcases ha with rfl | rfl <;> exact ⟨_, _, rfl⟩)
    | (subst ha; exact ⟨_, _, rfl⟩)

theorem src_A (h : ℕ) (hh : h < 3) : src h = [.av h] ∧ sendIn h = [.da h] ∧ recvOut h = [.ra h] := by
  interval_cases h <;> exact ⟨rfl, rfl, rfl⟩
theorem src_B (j : ℕ) (hj : j < 3) : src (3 + j) = [.bv j] ∧ sendIn (3 + j) = .db j :: passed (3 + j)
    ∧ recvOut (3 + j) = .rb j :: (passed (3 + j)).map shift := by
  interval_cases j <;> exact ⟨rfl, rfl, rfl⟩
theorem src_C (j : ℕ) (hj : j < 3) : src (6 + j) = [.ol ((j + 3) % 4)] ∧ sendIn (6 + j) = .x 3 j :: passed (6 + j)
    ∧ recvOut (6 + j) = .ol j :: .orr j :: (passed (6 + j)).map shift := by
  interval_cases j <;> exact ⟨rfl, rfl, rfl⟩
theorem src_D (j : ℕ) (hj : j < 3) : src (9 + j) = [if j = 0 then .br else .bf (j - 1)] ∧ sendIn (9 + j) = [.dd j] ∧ recvOut (9 + j) = [.bf j] := by
  interval_cases j <;> exact ⟨rfl, rfl, rfl⟩

theorem tgt_A {h : ℕ} (hh : h < 3) : tgt d h c = tgtP d c := if_pos (by omega)
theorem tgt_B {j : ℕ} (hj : j < 3) : tgt d (3 + j) c = tgtZ d c := if_neg (by omega)
theorem tgt_C {j : ℕ} (hj : j < 3) : tgt d (6 + j) c = tgtZ d c := if_neg (by omega)
theorem tgt_D {j : ℕ} (hj : j < 3) : tgt d (9 + j) c = tgtP d c := if_pos (by omega)
theorem amt_A {h : ℕ} (hh : h < 3) : amt h = N128 := if_pos (by omega)
theorem amt_B {j : ℕ} (hj : j < 3) : amt (3 + j) = N32 := if_neg (by omega)
theorem amt_C {j : ℕ} (hj : j < 3) : amt (6 + j) = N32 := if_neg (by omega)
theorem amt_D {j : ℕ} (hj : j < 3) : amt (9 + j) = N128 := if_pos (by omega)

theorem send_A {n : Dev nD} {qs qr : DmaSem sig} (st d h : ℕ) {off off' : Fin 5 → ℕ}
    {inb : ∀ a, off a + S1x1x1x128x512.size a ≤ S2x2x3x128x512.size a} {inb' : ∀ a, off' a + S1x1x1x128x512.size a ≤ S2x2x3x128x512.size a}
    {hsc hsrc hdst hsem} (hst : st < 2) (hd : d < 2) (hh : h < 3) (hoff : off = ![st, d, h, 0, 0]) (hoff' : off' = ![st, d, h, 0, 0])
    (hn : n = tgtP d c) (hqs : qs = sS st d h) (hqr : qr = sR st d h)
    (hk : kinds[get st d N]? = some (.send h)) (hitem : (items c)[k]? = some (rCell (tgt d h c) st d h, amt h)) :
    HT m K c (St m c N k)
      (Prog.lift (.enqueueDma (saW off inb) (.remote (Dev.tc n) (raW off' inb') (.dma qs) hsc) (.dma qr) hsrc hdst hsem))
      (fun _ => True) (St m c (bump st d N) (k + 1)) := by
  subst hn
  obtain ⟨e1, e2, e3⟩ := src_A h hh
  refine ht_send st d h hst hd (by omega) (tgt_A hh).symm hqs hqr ((amt_A hh).symm ▸ rfl) hk hitem (q := fullShare) (fs := stA m c) (X := iprop(emp)) ?_ ?_ ?_
  · rw [e1, set_saW hoff]; rfl
  · rw [e2, set_raW hoff']; exact Entails.refl _
  · intro fd
    rw [e3, set_raW hoff', pointsTo_congr (copy_A m c hoff hoff' inb inb' fd)]
    exact Entails.refl _

theorem send_B {n : Dev nD} {qs qr : DmaSem sig} (st d j : ℕ) {off off' : Fin 5 → ℕ}
    {inb : ∀ a, off a + S1x1x1x32x512.size a ≤ S2x2x3x32x512.size a} {inb' : ∀ a, off' a + S1x1x1x32x512.size a ≤ S2x2x3x32x512.size a}
    {hsc hsrc hdst hsem} (hst : st < 2) (hd : d < 2) (hj : j < 3) (hoff : off = ![st, d, j, 0, 0]) (hoff' : off' = ![st, d, j, 0, 0])
    (hn : n = tgtZ d c) (hqs : qs = sS st d (3 + j)) (hqr : qr = sR st d (3 + j))
    (hk : kinds[get st d N]? = some (.send (3 + j))) (hitem : (items c)[k]? = some (rCell (tgt d (3 + j) c) st d (3 + j), amt (3 + j))) :
    HT m K c (St m c N k)
      (Prog.lift (.enqueueDma (sbW off inb) (.remote (Dev.tc n) (rbW off' inb') (.dma qs) hsc) (.dma qr) hsrc hdst hsem))
      (fun _ => True) (St m c (bump st d N) (k + 1)) := by
  subst hn
  obtain ⟨e1, e2, e3⟩ := src_B j hj
  refine ht_send st d (3 + j) hst hd (by omega) (tgt_B hj).symm hqs hqr ((amt_B hj).symm ▸ rfl) hk hitem (q := fullShare) (fs := stB m c)
    (X := denML m c st d (passed (3 + j))) ?_ ?_ ?_
  · rw [e1, set_sbW hoff]; rfl
  · rw [e2, set_rbW hoff']; exact Entails.refl _
  · intro fd
    rw [e3, set_rbW hoff', pointsTo_congr (copy_B m c hoff hoff' inb inb' fd), ← denML_shift c st d hd _ (passed_x _ (by omega))]
    exact Entails.refl _

theorem send_C {n : Dev nD} {qs qr : DmaSem sig} (st d j : ℕ) {off off' : Fin 2 → ℕ}
    {inb : ∀ a, off a + S32x512.size a ≤ S1024x1024.size a} {inb' : ∀ a, off' a + S32x512.size a ≤ S1024x1024.size a}
    {hsc hsrc hdst hsem} (hst : st < 2) (hd : d < 2) (hj : j < 3) (hoff : off = ![chRow d c ((j + 3) % 4), 512 * st])
    (hoff' : off' = ![chRow d c ((j + 3) % 4), 512 * st])
    (hn : n = tgtZ d c) (hqs : qs = sS st d (6 + j)) (hqr : qr = sR st d (6 + j))
    (hk : kinds[get st d N]? = some (.send (6 + j))) (hitem : (items c)[k]? = some (rCell (tgt d (6 + j) c) st d (6 + j), amt (6 + j))) :
    HT m K c (St m c N k)
      (Prog.lift (.enqueueDma (oV32 off inb) (.remote (Dev.tc n) (oV32 off' inb') (.dma qs) hsc) (.dma qr) hsrc hdst hsem))
      (fun _ => True) (St m c (bump st d N) (k + 1)) := by
  subst hn
  have hrow : chRow d c ((j + 3) % 4) = chRow d (tgtZ d c) j := by
    rw [← chRow_tgtZ d c ((j + 3) % 4)]
    interval_cases j <;> first | rfl | exact chRow_add_four _ _ _
  obtain ⟨e1, e2, e3⟩ := src_C j hj
  refine ht_send st d (6 + j) hst hd (by omega) (tgt_C hj).symm hqs hqr ((amt_C hj).symm ▸ rfl) hk hitem (q := fullShare.left) (fs := resC m)
    (X := denML m c st d (passed (6 + j))) ?_ ?_ ?_
  · rw [e1]
    show iprop(oPt fullShare.left c (rows (chRow d c ((j + 3) % 4)) 32 st) (resC m) ∗ emp) = _
    rw [← set_o32 hoff inb]; rfl
  · rw [e2]
    show iprop((∃ f, oPt fullShare ((backZ d)^[3] c) (rows (chRow d ((backZ d)^[3] c) j) 32 st) f) ∗ denML m c st d (passed (6 + j))) ⊢ _
    rw [show (backZ d)^[3] c = tgtZ d c from backZ_three d c, ← hrow, ← set_o32 hoff' inb']
    exact Entails.refl _
  · intro fd
    rw [e3, pointsTo_congr (copy_o32 (hoff'.trans hoff.symm) inb inb' fd (resC m)), ← denML_shift c st d hd _ (passed_x _ (by omega))]
    show _ ⊢ iprop(oPt fullShare.left (tgtZ d c) (rows (chRow d (tgtZ d c) j) 32 st) (resC m)
      ∗ oPt fullShare.right (tgtZ d c) (rows (chRow d (tgtZ d c) j) 32 st) (resC m) ∗ denML m (tgtZ d c) st d ((passed (6 + j)).map shift))
    rw [← hrow, ← set_o32 hoff' inb']
    refine BIBase.Entails.trans (sep_mono_left (Entails.of_eq (oPt_halves (tgtZ d c) (oM.access (Rect.unit (s := S1024x1024) off' S32x512.size inb')).set (resC m)))) ?_
    iintro ⟨⟨H0, H1⟩, H2⟩
    isplitl [H0]; · iexact H0
    isplitl [H1] <;> iassumption

theorem send_D {n : Dev nD} {qs qr : DmaSem sig} (st d j : ℕ) {off off' : Fin 2 → ℕ}
    {inb : ∀ a, off a + S128x512.size a ≤ S1024x1024.size a} {inb' : ∀ a, off' a + S128x512.size a ≤ S1024x1024.size a}
    {hsc hsrc hdst hsem} (hst : st < 2) (hd : d < 2) (hj : j < 3) (hoff : off = ![blkRow d c ((j + 3) % 4), 512 * st])
    (hoff' : off' = ![blkRow d c ((j + 3) % 4), 512 * st])
    (hn : n = tgtP d c) (hqs : qs = sS st d (9 + j)) (hqr : qr = sR st d (9 + j))
    (hk : kinds[get st d N]? = some (.send (9 + j))) (hitem : (items c)[k]? = some (rCell (tgt d (9 + j) c) st d (9 + j), amt (9 + j))) :
    HT m K c (St m c N k)
      (Prog.lift (.enqueueDma (oV128 off inb) (.remote (Dev.tc n) (oV128 off' inb') (.dma qs) hsc) (.dma qr) hsrc hdst hsem))
      (fun _ => True) (St m c (bump st d N) (k + 1)) := by
  subst hn
  have hrow : blkRow d c ((j + 3) % 4) = blkRow d (tgtP d c) j := by
    rw [← blkRow_tgtP d c ((j + 3) % 4)]
    interval_cases j <;> first | rfl | exact blkRow_add_four _ _ _
  obtain ⟨e1, e2, e3⟩ := src_D j hj
  have key : ∃ q, denML m c st d (src (9 + j)) = iprop(oPt q c (rows (blkRow d c ((j + 3) % 4)) 128 st) (resC m) ∗ emp) := by
    rw [e1]
    interval_cases j
    exacts [⟨fullShare.right, rfl⟩, ⟨fullShare, rfl⟩, ⟨fullShare, rfl⟩]
  obtain ⟨q, key⟩ := key
  refine ht_send st d (9 + j) hst hd (by omega) (tgt_D hj).symm hqs hqr ((amt_D hj).symm ▸ rfl) hk hitem (q := q) (fs := resC m)
    (X := iprop(emp)) ?_ ?_ ?_
  · rw [key, ← set_o128 hoff inb]; rfl
  · rw [e2]
    show iprop((∃ f, oPt fullShare (tgtP d c) (rows (blkRow d (tgtP d c) j) 128 st) f) ∗ emp) ⊢ _
    rw [← hrow, ← set_o128 hoff' inb']
    exact Entails.refl _
  · intro fd
    rw [e3, pointsTo_congr (copy_o128 (hoff'.trans hoff.symm) inb inb' fd (resC m))]
    show _ ⊢ iprop(oPt fullShare (tgtP d c) (rows (blkRow d (tgtP d c) j) 128 st) (resC m) ∗ emp)
    rw [← hrow, ← set_o128 hoff' inb']
    exact Entails.refl _

/-! ### Waits -/

section Waits
variable {κ' : Kind} {sp sp' : Space} {s s' : Shape} {e e' : EltTy}

/-- A wait for the arrival of hop `h`: it brings what the transfer carried, and the cell at zero. -/
theorem wait_recv {vS : Memref sig .tc sp' s' e'} {vD : Memref sig κ' sp s e} {q : DmaSem sig} {hsrc hdst} (st d h : ℕ) (hst : st < 2) (hd : d < 2) (hh : h < 12)
    (hq : q = sR st d h) (hamt : vD.view.dmaCredit = amt h) (hk : kinds[get st d N]? = some (.recv h))
    (hlv : ∀ l ∈ itemLv.drop k, 2 + h + st < l) :
    HT m K c (St m c N k) (Prog.lift (.waitDma2 q vS vD hsrc hdst)) (fun _ => True) (St m c (bump st d N) k) := by
  subst hq
  refine ht_lane hst hd hk ?_
  intro Q
  obtain ⟨κ, he⟩ := env_dma m K c (sR st d h) (two_le_sR hst hd hh)
  have e : denL m c st d (post (.recv h)) = iprop(semVal (rCell c st d h) 0 ∗ denML m c st d (recvOut h)) :=
    congrArg (BIBase.sep _) (denL_map m c st d _)
  rw [e]
  show iprop(env m K ∗ (((atPos ER (rCell c st d h) 0 ∅ 0 ∗ cred (tallyAt (rCell c st d h) () (amt h))) ∗ emp) ∗ owesE c (owed c k)) ∗ _) ⊢ _
  unfold owesE
  iintro ⟨#He, ⟨⟨⟨Hat, Hc⟩, -⟩, ⟨%W, Ho⟩⟩, Hk⟩
  ihave H1 := he $$ He
  icases H1 with ⟨#Hi, -⟩
  ihave #Hl := (env_lev m K) $$ He
  ihave Hw := (mayWait c (.dma (sR st d h)) k (by rw [lvS_R hst hd hh]; exact hlv)) $$ Hl
  rw [← hamt]
  simp only [Prog.lift]
  iapply (Rounds.wp_wait_rest_token 𝒱₀ ER (Rd m) (c : Thread nD τ) none (κ := κ)
    (wpE_waitDma2_eq 𝒱₀ (c : Thread nD τ) none Set.univ) (Set.mem_univ _) () (O := owed c k) (W := W) (R := 0) (m := 0) (T := ∅)
    (by rw [Nat.zero_add, expect_dma m c _ (two_le_sR hst hd hh), hOf_R hst hd hh, hamt])) $$ [Hat Hc Ho Hw]
  · isplitr; · iexact Hi
    isplitl [Hc]; · iexact Hc
    isplitl [Ho]; · iexact Ho
    isplitl [Hw] <;> iassumption
  rw [rest_R m c hst hd hh]
  iintro ⟨Ho, Hat, -, HP⟩
  rw [wp_ret]
  imod (Rounds.cell_close ER (Rd m) (Set.mem_univ κ) (fun h => h) (R := 0 + 1) (duties_later m _)) $$ [Hat] with Hz
  · isplitr; · iexact Hi
    iexact Hat
  imodintro
  ihave Hk' := (kont (F := F) (R := fun _ => True) PUnit.unit trivial) $$ Hk
  iapply Hk'
  isplitr [Ho]
  · isplitl [Hz] <;> iassumption
  · iexists _; iexact Ho

/-- A wait for the completion of hop `h`'s send: it brings back the source, and the cell at zero. -/
theorem wait_send {vS : Memref sig .tc sp' s' e'} {vD : Memref sig κ' sp s e} {q : DmaSem sig} {hsrc hdst} (st d h : ℕ) (hst : st < 2) (hd : d < 2) (hh : h < 12)
    (hq : q = sS st d h) (hamt : vD.view.dmaCredit = amt h) (hk : kinds[get st d N]? = some (.wsend h))
    (hlv : ∀ l ∈ itemLv.drop k, 0 < l) :
    HT m K c (St m c N k) (Prog.lift (.waitDma2 q vS vD hsrc hdst)) (fun _ => True) (St m c (bump st d N) k) := by
  subst hq
  refine ht_lane hst hd hk ?_
  intro Q
  obtain ⟨κ, he⟩ := env_dma m K c (sS st d h) (two_le_sS hst hd hh)
  have e : denL m c st d (post (.wsend h)) = iprop(semVal (sCell c st d h) 0 ∗ denML m c st d (src h)) :=
    congrArg (BIBase.sep _) (denL_map m c st d _)
  rw [e]
  show iprop(env m K ∗ (((atPos ER (sCell c st d h) 0 ∅ 0 ∗ cred (tallyAt (sCell c st d h) () (amt h))) ∗ emp) ∗ owesE c (owed c k)) ∗ _) ⊢ _
  unfold owesE
  iintro ⟨#He, ⟨⟨⟨Hat, Hc⟩, -⟩, ⟨%W, Ho⟩⟩, Hk⟩
  ihave H1 := he $$ He
  icases H1 with ⟨#Hi, -⟩
  ihave #Hl := (env_lev m K) $$ He
  ihave Hw := (mayWait c (.dma (sS st d h)) k (by rw [lvS_S hst hd hh]; exact hlv)) $$ Hl
  rw [← hamt]
  simp only [Prog.lift]
  iapply (Rounds.wp_wait_rest_token 𝒱₀ ER (Rd m) (c : Thread nD τ) none (κ := κ)
    (wpE_waitDma2_eq 𝒱₀ (c : Thread nD τ) none Set.univ) (Set.mem_univ _) () (O := owed c k) (W := W) (R := 0) (m := 0) (T := ∅)
    (by rw [Nat.zero_add, expect_dma m c _ (two_le_sS hst hd hh), hOf_S hst hd hh, hamt])) $$ [Hat Hc Ho Hw]
  · isplitr; · iexact Hi
    isplitl [Hc]; · iexact Hc
    isplitl [Ho]; · iexact Ho
    isplitl [Hw] <;> iassumption
  rw [rest_S m c hst hd hh]
  iintro ⟨Ho, Hat, -, HP⟩
  rw [wp_ret]
  imod (Rounds.cell_close ER (Rd m) (Set.mem_univ κ) (fun h => h) (R := 0 + 1) (duties_later m _)) $$ [Hat] with Hz
  · isplitr; · iexact Hi
    iexact Hat
  imodintro
  ihave Hk' := (kont (F := F) (R := fun _ => True) PUnit.unit trivial) $$ Hk
  iapply Hk'
  isplitr [Ho]
  · isplitl [Hz] <;> iassumption
  · iexists _; iexact Ho

end Waits

end Cert.KernelIdeal.AllReduce
-- ==== Proof.Start.lean ====
/-
# The opening handshake

Every device signals its four neighbours, passing each the places into which that neighbour will copy, and waits for four
signals. After the wait it holds the free places of its receivers and its lanes begin.
-/
module

public import proofs.«01_k».proof.Proof.Xfer

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 97 → ℕ} {c : Dev nD}

/-- The receivers of the four signals. -/
def bdst (c : Dev nD) (i : Fin 4) : Dev nD := ![tgtP 0 c, tgtP 1 c, tgtZ 0 c, tgtZ 1 c] i
/-- The receiver's number for a signal. -/
def bduty (i : Fin 4) : Fin 4 := ![1, 0, 3, 2] i

/-- What signal `i` spends: its duty at the receiver, and the places handed over. -/
def sigDen (c : Dev nD) (i : Fin 4) : sProp 𝕄 :=
  iprop(dutyTok ER (barCell (bdst c i)) 0 (bduty i) ∗ barPay m (bdst c i) (bduty i))

/-- What a device holds through the handshake besides. -/
def rest0 (c : Dev nD) : sProp 𝕄 :=
  iprop((atPos ER (barCell c) 0 ∅ 0 ∗ cred (tallyAt (barCell c) () 4))
    ∗ (denL m c 0 0 own0 ∗ denL m c 0 1 own0 ∗ denL m c 1 0 own0 ∗ denL m c 1 1 own0) ∗ xPts m c)

/-- A device's state after its first `j` signals. -/
def St0 (c : Dev nD) (j : ℕ) : sProp 𝕄 :=
  iprop(sepL (sigDen m c) (([0, 1, 2, 3] : List (Fin 4)).drop j) ∗ owesE c (owed c j) ∗ rest0 m c)

variable {m}

theorem ht_signal {n : Dev nD} (i : Fin 4) {w : BitVec 32} (hw : w = 1#32) (hn : n = bdst c i) :
    HT m K c (St0 m c i.val) (semSignalWord (p := .tc) n barS w : PrgF F PUnit) (fun _ => True) (St0 m c (i.val + 1)) := by
  subst hw hn
  obtain ⟨κ, he⟩ := env_bar m K (bdst c i)
  have hl : sepL (sigDen m c) (([0, 1, 2, 3] : List (Fin 4)).drop i.val)
      = iprop(sigDen m c i ∗ sepL (sigDen m c) (([0, 1, 2, 3] : List (Fin 4)).drop (i.val + 1))) := by
    fin_cases i <;> rfl
  have hitem : (items c)[i.val]? = some (barCell (bdst c i), 1) := by fin_cases i <;> rfl
  have hp : barPay m (bdst c i) (bduty i) = (Rd m).payload (barCell (bdst c i)) 0 (bduty i) := rfl
  intro Q
  unfold St0
  rw [hl]
  unfold sigDen owesE
  rw [hp]
  iintro ⟨#He, ⟨⟨⟨Ht, Hp⟩, Hs⟩, ⟨%W, Ho⟩, HX⟩, Hk⟩
  ihave H1 := he $$ He
  icases H1 with ⟨#Hi, #Hr⟩
  iapply (Rounds.wp_signal 𝒱₀ ER (Rd m) (c : Thread nD τ) none (dst := (bdst c i : Thread nD τ)) (κ := κ) (r := 0) (d := bduty i) (k' := 1)
    (by rw [duties_bar]; exact Finset.mem_univ _) rfl () (owed c (i.val + 1)) (owed_step c hitem)) $$ [Ho Ht Hp]
  · isplitr; · iexact Hi
    isplitl [Ho]; · iexact Ho
    isplitl [Ht]; · iexact Ht
    isplitl [Hp]; · iexact Hp
    iexact Hr
  iintro Ho
  rw [wp_ret]; imodintro
  ihave Hk' := (kont (F := F) (R := fun _ => True) PUnit.unit trivial) $$ Hk
  iapply Hk'
  isplitl [Hs]; · iexact Hs
  isplitl [Ho]; · iexists _; iexact Ho
  iexact HX

/-- A lane's first state is what it had and what the two signals of its direction brought. -/
theorem lane_start (c : Dev nD) (st d : ℕ) : lane m c st d 0
    = iprop((denML m c st d [.da 0, .da 1, .da 2, .dd 0, .dd 1, .dd 2] ∗ denML m c st d [.db 0, .db 1, .db 2]) ∗ denL m c st d own0) := by
  show denL m c st d (handed.map .m ++ own0) = _
  refine (sepL_append _ _ _).trans (congrArg (BIBase.sep · _) ?_)
  refine (denL_map m c st d handed).trans ?_
  exact sepL_append (denM m c st d) [.da 0, .da 1, .da 2, .dd 0, .dd 1, .dd 2] [.db 0, .db 1, .db 2]

theorem ht_wait_bar {w : BitVec 32} (hw : w = 4#32) :
    HT m K c (St0 m c 4) (semWaitWord barS w : PrgF F PUnit) (fun _ => True) (St m c (0, 0, 0, 0) 4) := by
  subst hw
  obtain ⟨κ, he⟩ := env_bar m K c
  intro Q
  unfold St0 rest0 owesE
  iintro ⟨#He, ⟨-, ⟨%W, Ho⟩, ⟨Hat, Hc⟩, ⟨L0, L1, L2, L3⟩, HX⟩, Hk⟩
  ihave H1 := he $$ He
  icases H1 with ⟨#Hi, -⟩
  ihave #Hl := (env_lev m K) $$ He
  ihave Hw := (mayWait c (.reg barS) 4 (by decide)) $$ Hl
  iapply (Rounds.wp_wait_rest_token 𝒱₀ ER (Rd m) (c : Thread nD τ) none (κ := κ)
    (wpE_semWait_eq 𝒱₀ (c : Thread nD τ) none Set.univ) (Set.mem_univ _) () (O := owed c 4) (W := W) (R := 0) (m := 0) (T := ∅)
    (k' := 4) (by rw [Nat.zero_add, expect_bar])) $$ [Hat Hc Ho Hw]
  · isplitr; · iexact Hi
    isplitl [Hc]; · iexact Hc
    isplitl [Ho]; · iexact Ho
    isplitl [Hw] <;> iassumption
  rw [rest_bar m c]
  iintro ⟨Ho, Hat, -, HP⟩
  rw [wp_ret]
  imod (Rounds.cell_close ER (Rd m) (Set.mem_univ κ) (fun h => h) (R := 0 + 1) (duties_later m _)) $$ [Hat] with Hz
  · isplitr; · iexact Hi
    iexact Hat
  imodintro
  ihave Hk' := (kont (F := F) (R := fun _ => True) PUnit.unit trivial) $$ Hk
  iapply Hk'
  unfold St
  simp only [lane_start]
  unfold barPay owesE
  icases HP with ⟨⟨P00, P10⟩, ⟨P01, P11⟩, ⟨Z00, Z10⟩, ⟨Z01, Z11⟩⟩
  isplitl [P00 Z00 L0]
  · isplitr [L0]
    · isplitl [P00]; · iexact P00
      iexact Z00
    · iexact L0
  isplitl [P01 Z01 L1]
  · isplitr [L1]
    · isplitl [P01]; · iexact P01
      iexact Z01
    · iexact L1
  isplitl [P10 Z10 L2]
  · isplitr [L2]
    · isplitl [P10]; · iexact P10
      iexact Z10
    · iexact L2
  isplitl [P11 Z11 L3]
  · isplitr [L3]
    · isplitl [P11]; · iexact P11
      iexact Z11
    · iexact L3
  isplitl [HX Hz]
  · isplitl [HX] <;> iassumption
  iexists _; iexact Ho

/-- The program learns the number of the device that it runs on. -/
theorem ht_device {P : sProp 𝕄} : HT m K c P (Prog.lift .deviceId : PrgF F (Dev nD)) (fun v => v = c) P := by
  intro Q
  iintro ⟨-, HP, Hk⟩
  simp only [Prog.lift, wp_deviceId]
  rw [wp_ret]; imodintro
  ihave Hk' := (kont (F := F) (R := fun v => v = c) c rfl) $$ Hk
  iapply Hk'; iexact HP

end Cert.KernelIdeal.AllReduce
-- ==== Proof.Lanes.lean ====
/-
# The four lanes together

Resources that each of the four lanes has, and the buffers of a device cut into the pieces of its lanes.
-/
module

public import proofs.«01_k».proof.Proof.Start

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### Conjunctions over the lanes -/

/-- Something for each of the four lanes. -/
def lanes (Φ : ℕ → ℕ → sProp 𝕄) : sProp 𝕄 := iprop(Φ 0 0 ∗ Φ 0 1 ∗ Φ 1 0 ∗ Φ 1 1)

omit [FloatOps F] in
theorem lanes_mono {Φ Ψ : ℕ → ℕ → sProp 𝕄} (h : ∀ st d, st < 2 → d < 2 → Φ st d ⊢ Ψ st d) : lanes Φ ⊢ lanes Ψ := by
  have h00 := h 0 0 (by decide) (by decide)
  have h01 := h 0 1 (by decide) (by decide)
  have h10 := h 1 0 (by decide) (by decide)
  have h11 := h 1 1 (by decide) (by decide)
  unfold lanes
  iintro ⟨H0, H1, H2, H3⟩
  isplitl [H0]; · iapply h00; iexact H0
  isplitl [H1]; · iapply h01; iexact H1
  isplitl [H2]; · iapply h10; iexact H2
  iapply h11; iexact H3

omit [FloatOps F] in
theorem lanes_sep (Φ Ψ : ℕ → ℕ → sProp 𝕄) : iprop(lanes Φ ∗ lanes Ψ) = lanes fun st d => iprop(Φ st d ∗ Ψ st d) := by
  refine equiv_iff.mp ⟨?_, ?_⟩
  · show iprop((Φ 0 0 ∗ Φ 0 1 ∗ Φ 1 0 ∗ Φ 1 1) ∗ Ψ 0 0 ∗ Ψ 0 1 ∗ Ψ 1 0 ∗ Ψ 1 1) ⊢ iprop((Φ 0 0 ∗ Ψ 0 0) ∗ (Φ 0 1 ∗ Ψ 0 1) ∗ (Φ 1 0 ∗ Ψ 1 0) ∗ (Φ 1 1 ∗ Ψ 1 1))
    iintro ⟨⟨A0, A1, A2, A3⟩, B0, B1, B2, B3⟩
    isplitl [A0 B0]; · isplitl [A0] <;> iassumption
    isplitl [A1 B1]; · isplitl [A1] <;> iassumption
    isplitl [A2 B2]; · isplitl [A2] <;> iassumption
    isplitl [A3] <;> iassumption
  · show iprop((Φ 0 0 ∗ Ψ 0 0) ∗ (Φ 0 1 ∗ Ψ 0 1) ∗ (Φ 1 0 ∗ Ψ 1 0) ∗ (Φ 1 1 ∗ Ψ 1 1)) ⊢ iprop((Φ 0 0 ∗ Φ 0 1 ∗ Φ 1 0 ∗ Φ 1 1) ∗ Ψ 0 0 ∗ Ψ 0 1 ∗ Ψ 1 0 ∗ Ψ 1 1)
    iintro ⟨⟨A0, B0⟩, ⟨A1, B1⟩, ⟨A2, B2⟩, A3, B3⟩
    isplitl [A0 A1 A2 A3]
    · isplitl [A0]; · iexact A0
      isplitl [A1]; · iexact A1
      isplitl [A2] <;> iassumption
    · isplitl [B0]; · iexact B0
      isplitl [B1]; · iexact B1
      isplitl [B2] <;> iassumption

omit [FloatOps F] in
theorem lanes_bigSep {I : Type} (S : Finset I) (Φ : I → ℕ → ℕ → sProp 𝕄) :
    (bigSep S fun i => lanes (Φ i)) = lanes fun st d => bigSep S fun i => Φ i st d := by
  unfold lanes
  rw [bigSep_sep', bigSep_sep', bigSep_sep']

omit [FloatOps F] in
theorem sepL_eq {I : Type} (l : List I) (Φ : I → sProp 𝕄) : bigSepL l Φ = sepL Φ l := by
  induction l with
  | nil => rfl
  | cons i l ih =>
    cases l with
    | nil => show Φ i = iprop(Φ i ∗ emp); exact (equiv_iff.mp ⟨BI.sep_comm.trans BI.emp_sep.1, BI.emp_sep.2.trans BI.sep_comm⟩).symm
    | cons j l => show iprop(Φ i ∗ bigSepL (j :: l) Φ) = iprop(Φ i ∗ sepL Φ (j :: l)); rw [ih]

omit [FloatOps F] in
theorem bigSep_sepL {I : Type} [Fintype I] [DecidableEq I] (l : List I) (h : Finset.univ = l.toFinset) (hl : l.Nodup) (Φ : I → sProp 𝕄) :
    bigSep Finset.univ Φ = sepL Φ l := (bigSep_univ_eq_bigSepL l h hl Φ).trans (sepL_eq l Φ)

omit [FloatOps F] in
theorem sepL_mono {α : Type} {Φ Ψ : α → sProp 𝕄} : ∀ {l : List α}, (∀ a ∈ l, Φ a ⊢ Ψ a) → (sepL Φ l ⊢ sepL Ψ l)
  | [], _ => Entails.refl _
  | a :: l, h => by
    have h1 := h a List.mem_cons_self
    have h2 := sepL_mono (l := l) fun b hb => h b (List.mem_cons_of_mem _ hb)
    show iprop(Φ a ∗ sepL Φ l) ⊢ iprop(Ψ a ∗ sepL Ψ l)
    iintro ⟨H1, H2⟩
    isplitl [H1]
    · iapply h1; iexact H1
    · iapply h2; iexact H2

omit [FloatOps F] in
theorem sepL_congr {α : Type} {Φ Ψ : α → sProp 𝕄} {l : List α} (h : ∀ a ∈ l, Φ a = Ψ a) : sepL Φ l = sepL Ψ l :=
  equiv_iff.mp ⟨sepL_mono fun a ha => by rw [h a ha], sepL_mono fun a ha => by rw [h a ha]⟩

omit [FloatOps F] in
theorem sepL_sep {α : Type} (Φ Ψ : α → sProp 𝕄) : ∀ l : List α, iprop(sepL Φ l ∗ sepL Ψ l) = sepL (fun a => iprop(Φ a ∗ Ψ a)) l
  | [] => equiv_iff.mp BI.emp_sep
  | a :: l => by
    show iprop((Φ a ∗ sepL Φ l) ∗ (Ψ a ∗ sepL Ψ l)) = iprop((Φ a ∗ Ψ a) ∗ sepL (fun a => iprop(Φ a ∗ Ψ a)) l)
    rw [← sepL_sep Φ Ψ l]
    refine equiv_iff.mp ⟨?_, ?_⟩
    · show iprop((Φ a ∗ sepL Φ l) ∗ Ψ a ∗ sepL Ψ l) ⊢ iprop((Φ a ∗ Ψ a) ∗ sepL Φ l ∗ sepL Ψ l)
      iintro ⟨⟨A, B⟩, C, D⟩
      isplitl [A C]; · isplitl [A] <;> iassumption
      isplitl [B] <;> iassumption
    · show iprop((Φ a ∗ Ψ a) ∗ sepL Φ l ∗ sepL Ψ l) ⊢ iprop((Φ a ∗ sepL Φ l) ∗ Ψ a ∗ sepL Ψ l)
      iintro ⟨⟨A, C⟩, B, D⟩
      isplitl [A B]; · isplitl [A] <;> iassumption
      isplitl [C] <;> iassumption

omit [FloatOps F] in
theorem sepL_bigSep {I α : Type} (S : Finset I) (Φ : I → α → sProp 𝕄) :
    ∀ l : List α, (bigSep S fun i => sepL (Φ i) l) = sepL (fun a => bigSep S fun i => Φ i a) l
  | [] => by
    show (bigSep S fun _ => iprop(emp)) = iprop(emp)
    exact bigSep_emp_const S
  | a :: l => by
    show (bigSep S fun i => iprop(Φ i a ∗ sepL (Φ i) l)) = iprop((bigSep S fun i => Φ i a) ∗ sepL (fun a => bigSep S fun i => Φ i a) l)
    rw [bigSep_sep', sepL_bigSep S Φ l]

omit [FloatOps F] in
/-- Something for each stream, direction and number, by lanes. -/
theorem bigSep_lanes (n : ℕ) (Φ : ℕ → ℕ → ℕ → sProp 𝕄) :
    (bigSep Finset.univ fun x : Fin 2 × Fin 2 × Fin n => Φ x.1.val x.2.1.val x.2.2.val)
      = lanes fun st d => bigSep Finset.univ fun k : Fin n => Φ st d k.val := by
  rw [bigSep_univ_prod, bigSep_univ_eq_bigSepL [0, 1] (by decide) (by decide)]
  show iprop((bigSep Finset.univ fun b : Fin 2 × Fin n => Φ 0 b.1.val b.2.val) ∗ (bigSep Finset.univ fun b : Fin 2 × Fin n => Φ 1 b.1.val b.2.val)) = _
  rw [bigSep_univ_prod, bigSep_univ_prod, bigSep_univ_eq_bigSepL [0, 1] (by decide) (by decide), bigSep_univ_eq_bigSepL [0, 1] (by decide) (by decide)]
  exact equiv_iff.mp ⟨BI.sep_assoc, BI.sep_assoc'⟩

/-! ### The buffers -/

/-- A buffer of slots is its twelve slots. -/
theorem slotsA (S : Finset S2x2x3x128x512.Idx → sProp 𝕄)
    (h : S ((Finset.univ : Finset (Fin 2 × Fin 2 × Fin 3)).biUnion fun x => slotA x.1.val x.2.1.val x.2.2.val)
      = bigSep Finset.univ fun x : Fin 2 × Fin 2 × Fin 3 => S (slotA x.1.val x.2.1.val x.2.2.val)) :
    S Finset.univ = lanes fun st d => iprop(S (slotA st d 0) ∗ S (slotA st d 1) ∗ S (slotA st d 2)) := by
  have hu : (Finset.univ : Finset S2x2x3x128x512.Idx)
      = (Finset.univ : Finset (Fin 2 × Fin 2 × Fin 3)).biUnion fun x => slotA x.1.val x.2.1.val x.2.2.val := by
    ext i
    simp only [Finset.mem_univ, true_iff, Finset.mem_biUnion, true_and]
    exact ⟨(⟨(i 0).val, (i 0).isLt⟩, ⟨(i 1).val, (i 1).isLt⟩, ⟨(i 2).val, (i 2).isLt⟩), mem_slotA.mpr ⟨rfl, rfl, rfl⟩⟩
  rw [hu, h]
  refine (bigSep_lanes 3 fun st d k => S (slotA st d k)).trans ?_
  congr 1; funext st d
  rw [bigSep_univ_eq_bigSepL [0, 1, 2] (by decide) (by decide)]; rfl

theorem disA : ∀ x ∈ (Finset.univ : Finset (Fin 2 × Fin 2 × Fin 3)), ∀ y ∈ (Finset.univ : Finset (Fin 2 × Fin 2 × Fin 3)), x ≠ y →
    Disjoint (slotA x.1.val x.2.1.val x.2.2.val) (slotA y.1.val y.2.1.val y.2.2.val) := by
  intro x _ y _ hne
  rw [Finset.disjoint_left]
  intro i hi hi'
  obtain ⟨a, b, e⟩ := mem_slotA.mp hi
  obtain ⟨a', b', e'⟩ := mem_slotA.mp hi'
  exact hne (Prod.ext (Fin.ext (a.symm.trans a')) (Prod.ext (Fin.ext (b.symm.trans b')) (Fin.ext (e.symm.trans e'))))

theorem slotsB (S : Finset S2x2x3x32x512.Idx → sProp 𝕄)
    (h : S ((Finset.univ : Finset (Fin 2 × Fin 2 × Fin 3)).biUnion fun x => slotB x.1.val x.2.1.val x.2.2.val)
      = bigSep Finset.univ fun x : Fin 2 × Fin 2 × Fin 3 => S (slotB x.1.val x.2.1.val x.2.2.val)) :
    S Finset.univ = lanes fun st d => iprop(S (slotB st d 0) ∗ S (slotB st d 1) ∗ S (slotB st d 2)) := by
  have hu : (Finset.univ : Finset S2x2x3x32x512.Idx)
      = (Finset.univ : Finset (Fin 2 × Fin 2 × Fin 3)).biUnion fun x => slotB x.1.val x.2.1.val x.2.2.val := by
    ext i
    simp only [Finset.mem_univ, true_iff, Finset.mem_biUnion, true_and]
    exact ⟨(⟨(i 0).val, (i 0).isLt⟩, ⟨(i 1).val, (i 1).isLt⟩, ⟨(i 2).val, (i 2).isLt⟩), mem_slotB.mpr ⟨rfl, rfl, rfl⟩⟩
  rw [hu, h]
  refine (bigSep_lanes 3 fun st d k => S (slotB st d k)).trans ?_
  congr 1; funext st d
  rw [bigSep_univ_eq_bigSepL [0, 1, 2] (by decide) (by decide)]; rfl

theorem disB : ∀ x ∈ (Finset.univ : Finset (Fin 2 × Fin 2 × Fin 3)), ∀ y ∈ (Finset.univ : Finset (Fin 2 × Fin 2 × Fin 3)), x ≠ y →
    Disjoint (slotB x.1.val x.2.1.val x.2.2.val) (slotB y.1.val y.2.1.val y.2.2.val) := by
  intro x _ y _ hne
  rw [Finset.disjoint_left]
  intro i hi hi'
  obtain ⟨a, b, e⟩ := mem_slotB.mp hi
  obtain ⟨a', b', e'⟩ := mem_slotB.mp hi'
  exact hne (Prod.ext (Fin.ext (a.symm.trans a')) (Prod.ext (Fin.ext (b.symm.trans b')) (Fin.ext (e.symm.trans e'))))

theorem sa_lanes (c : Dev nD) (f) : saPt (F := F) c Finset.univ f
    = lanes fun st d => iprop(saPt c (slotA st d 0) f ∗ saPt c (slotA st d 1) f ∗ saPt c (slotA st d 2) f) :=
  slotsA (fun S => saPt c S f) (pointsTo_biUnion (Ix := Unit) (Name := ℕ) (U := UU) (Lvl := ℕ) (Val := Elt F) (q := fullShare)
    (ℓ := (c : Thread nD τ).loc cc0_scratch0) (f := f) _ (fun x : Fin 2 × Fin 2 × Fin 3 => slotA x.1.val x.2.1.val x.2.2.val) disA)
theorem ra_lanes (c : Dev nD) (f) : raPt (F := F) c Finset.univ f
    = lanes fun st d => iprop(raPt c (slotA st d 0) f ∗ raPt c (slotA st d 1) f ∗ raPt c (slotA st d 2) f) :=
  slotsA (fun S => raPt c S f) (pointsTo_biUnion (Ix := Unit) (Name := ℕ) (U := UU) (Lvl := ℕ) (Val := Elt F) (q := fullShare)
    (ℓ := (c : Thread nD τ).loc cc0_scratch1) (f := f) _ (fun x : Fin 2 × Fin 2 × Fin 3 => slotA x.1.val x.2.1.val x.2.2.val) disA)
theorem sb_lanes (c : Dev nD) (f) : sbPt (F := F) c Finset.univ f
    = lanes fun st d => iprop(sbPt c (slotB st d 0) f ∗ sbPt c (slotB st d 1) f ∗ sbPt c (slotB st d 2) f) :=
  slotsB (fun S => sbPt c S f) (pointsTo_biUnion (Ix := Unit) (Name := ℕ) (U := UU) (Lvl := ℕ) (Val := Elt F) (q := fullShare)
    (ℓ := (c : Thread nD τ).loc cc0_scratch2) (f := f) _ (fun x : Fin 2 × Fin 2 × Fin 3 => slotB x.1.val x.2.1.val x.2.2.val) disB)
theorem rb_lanes (c : Dev nD) (f) : rbPt (F := F) c Finset.univ f
    = lanes fun st d => iprop(rbPt c (slotB st d 0) f ∗ rbPt c (slotB st d 1) f ∗ rbPt c (slotB st d 2) f) :=
  slotsB (fun S => rbPt c S f) (pointsTo_biUnion (Ix := Unit) (Name := ℕ) (U := UU) (Lvl := ℕ) (Val := Elt F) (q := fullShare)
    (ℓ := (c : Thread nD τ).loc cc0_scratch3) (f := f) _ (fun x : Fin 2 × Fin 2 × Fin 3 => slotB x.1.val x.2.1.val x.2.2.val) disB)

/-- The result buffer is the four half blocks of each lane. -/
theorem o_lanes (c : Dev nD) (f) : oPt (F := F) fullShare c Finset.univ f
    = lanes fun st d => iprop(oPt fullShare c (rows (blkRow d c 0) 128 st) f ∗ oPt fullShare c (rows (blkRow d c 1) 128 st) f
      ∗ oPt fullShare c (rows (blkRow d c 2) 128 st) f ∗ oPt fullShare c (rows (blkRow d c 3) 128 st) f) := by
  have hu : (Finset.univ : Finset S1024x1024.Idx)
      = (Finset.univ : Finset (Fin 2 × Fin 2 × Fin 4)).biUnion fun x => rows (blkRow x.2.1.val c x.2.2.val) 128 x.1.val := by
    ext i
    simp only [Finset.mem_univ, true_iff, Finset.mem_biUnion, true_and]
    have h0 : (i 0).val < 1024 := (i 0).isLt
    have h1 : (i 1).val < 1024 := (i 1).isLt
    obtain ⟨D, hD, eD⟩ : ∃ D, D < 2 ∧ D = (i 0).val / 128 % 2 := ⟨_, Nat.mod_lt _ (by decide), rfl⟩
    have hk : ∃ k < 4, (c.val + k * rs D) % 4 = (i 0).val / 256 := by
      rcases sg_cases D with ⟨-, e⟩ | ⟨-, e⟩ <;> rw [e]
      · exact ⟨(c.val + 3 * ((i 0).val / 256)) % 4, by omega, by omega⟩
      · exact ⟨((i 0).val / 256 + 3 * c.val) % 4, by omega, by omega⟩
    obtain ⟨k, hk, e⟩ := hk
    refine ⟨(⟨(i 1).val / 512, by omega⟩, ⟨D, hD⟩, ⟨k, hk⟩), mem_rows.mpr ?_⟩
    dsimp only
    unfold blkRow
    rw [e]
    omega
  have hdis : ∀ x ∈ (Finset.univ : Finset (Fin 2 × Fin 2 × Fin 4)), ∀ y ∈ (Finset.univ : Finset (Fin 2 × Fin 2 × Fin 4)), x ≠ y →
      Disjoint (rows (blkRow x.2.1.val c x.2.2.val) 128 x.1.val) (rows (blkRow y.2.1.val c y.2.2.val) 128 y.1.val) := by
    rintro ⟨⟨s, hs⟩, ⟨D, hD⟩, ⟨k, hk⟩⟩ _ ⟨⟨s', hs'⟩, ⟨D', hD'⟩, ⟨k', hk'⟩⟩ _ hne
    rw [Finset.disjoint_left]
    intro i hi hi'
    obtain ⟨⟨h1, h2⟩, h3, h4⟩ := mem_rows.mp hi
    obtain ⟨⟨h1', h2'⟩, h3', h4'⟩ := mem_rows.mp hi'
    dsimp only at h1 h2 h3 h4 h1' h2' h3' h4'
    have es : s = s' := by omega
    unfold blkRow at h1 h2 h1' h2'
    have eD : D = D' := by omega
    subst es eD
    have ek : k = k' := by
      rcases sg_cases D with ⟨-, e⟩ | ⟨-, e⟩ <;> rw [e] at h1 h2 h1' h2' <;> omega
    subst ek
    exact hne rfl
  have hh := pointsTo_biUnion (Ix := Unit) (Name := ℕ) (U := UU) (Lvl := ℕ) (Val := Elt F) (q := fullShare) (ℓ := (c : Thread nD τ).loc cc0_stg1_0) (f := f)
    Finset.univ (fun x : Fin 2 × Fin 2 × Fin 4 => rows (blkRow x.2.1.val c x.2.2.val) 128 x.1.val) hdis
  unfold oPt
  rw [hu]
  refine hh.trans ?_
  refine (bigSep_lanes 4 fun st d k => oPt fullShare c (rows (blkRow d c k) 128 st) f).trans ?_
  congr 1; funext st d
  rw [bigSep_univ_eq_bigSepL [0, 1, 2, 3] (by decide) (by decide)]; rfl

end Cert.KernelIdeal.AllReduce
-- ==== Proof.Bufs.lean ====
/-
# The buffers at the start and at the end of the program

At the start a device keeps some pieces of its five buffers and hands the others to its neighbours. At the end the pieces
that its lanes hold are the five whole buffers again.
-/
module

public import proofs.«01_k».proof.Proof.Lanes

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The places that the sender inside the plane is handed. -/
def planePl : List MA := [.da 0, .da 1, .da 2, .dd 0, .dd 1, .dd 2]
/-- The places that the sender across the planes is handed. -/
def crossPl : List MA := [.db 0, .db 1, .db 2]
/-- The places that a lane keeps. -/
def ownPl : List MA := [.au 0, .au 1, .au 2, .bu 0, .bu 1, .bu 2, .xb]

/-- The buffers of a device at unknown contents. -/
def buffers (c : Dev nD) : sProp 𝕄 :=
  iprop((∃ f, saPt c Finset.univ f) ∗ (∃ f, raPt c Finset.univ f) ∗ (∃ f, sbPt c Finset.univ f) ∗ (∃ f, rbPt c Finset.univ f)
    ∗ ∃ f, oPt fullShare c Finset.univ f)

/-- The buffers at the start are what the lanes keep and what the neighbours are handed. -/
theorem buffers_split (c : Dev nD) : buffers c ⊢ lanes fun st d =>
    iprop(denML m c st d ownPl ∗ denML m (backP d c) st d planePl ∗ denML m (backZ d c) st d crossPl) := by
  have key : ∀ (fa fb fc fd fo), iprop(saPt c Finset.univ fa ∗ raPt c Finset.univ fb ∗ sbPt c Finset.univ fc ∗ rbPt c Finset.univ fd
      ∗ oPt fullShare c Finset.univ fo) ⊢ lanes fun st d =>
    iprop(denML m c st d ownPl ∗ denML m (backP d c) st d planePl ∗ denML m (backZ d c) st d crossPl) := by
    intro fa fb fc fd fo
    rw [sa_lanes, ra_lanes, sb_lanes, rb_lanes, o_lanes, lanes_sep, lanes_sep, lanes_sep, lanes_sep]
    refine lanes_mono fun st d _ _ => ?_
    show iprop((saPt c (slotA st d 0) fa ∗ saPt c (slotA st d 1) fa ∗ saPt c (slotA st d 2) fa)
        ∗ (raPt c (slotA st d 0) fb ∗ raPt c (slotA st d 1) fb ∗ raPt c (slotA st d 2) fb)
        ∗ (sbPt c (slotB st d 0) fc ∗ sbPt c (slotB st d 1) fc ∗ sbPt c (slotB st d 2) fc)
        ∗ (rbPt c (slotB st d 0) fd ∗ rbPt c (slotB st d 1) fd ∗ rbPt c (slotB st d 2) fd)
        ∗ oPt fullShare c (rows (blkRow d c 0) 128 st) fo ∗ oPt fullShare c (rows (blkRow d c 1) 128 st) fo
          ∗ oPt fullShare c (rows (blkRow d c 2) 128 st) fo ∗ oPt fullShare c (rows (blkRow d c 3) 128 st) fo)
      ⊢ iprop(((∃ f, saPt c (slotA st d 0) f) ∗ (∃ f, saPt c (slotA st d 1) f) ∗ (∃ f, saPt c (slotA st d 2) f)
          ∗ (∃ f, sbPt c (slotB st d 0) f) ∗ (∃ f, sbPt c (slotB st d 1) f) ∗ (∃ f, sbPt c (slotB st d 2) f)
          ∗ (∃ f, oPt fullShare c (rows (blkRow d c 3) 128 st) f) ∗ emp)
        ∗ ((∃ f, raPt (tgtP d (backP d c)) (slotA st d 0) f) ∗ (∃ f, raPt (tgtP d (backP d c)) (slotA st d 1) f)
          ∗ (∃ f, raPt (tgtP d (backP d c)) (slotA st d 2) f)
          ∗ (∃ f, oPt fullShare (tgtP d (backP d c)) (rows (blkRow d (tgtP d (backP d c)) 0) 128 st) f)
          ∗ (∃ f, oPt fullShare (tgtP d (backP d c)) (rows (blkRow d (tgtP d (backP d c)) 1) 128 st) f)
          ∗ (∃ f, oPt fullShare (tgtP d (backP d c)) (rows (blkRow d (tgtP d (backP d c)) 2) 128 st) f) ∗ emp)
        ∗ ((∃ f, rbPt (tgtZ d (backZ d c)) (slotB st d 0) f) ∗ (∃ f, rbPt (tgtZ d (backZ d c)) (slotB st d 1) f)
          ∗ (∃ f, rbPt (tgtZ d (backZ d c)) (slotB st d 2) f) ∗ emp))
    rw [tgtP_backP, tgtZ_backZ]
    iintro ⟨⟨A0, A1, A2⟩, ⟨B0, B1, B2⟩, ⟨C0, C1, C2⟩, ⟨D0, D1, D2⟩, O0, O1, O2, O3⟩
    isplitl [A0 A1 A2 C0 C1 C2 O3]
    · isplitl [A0]; · iexists _; iexact A0
      isplitl [A1]; · iexists _; iexact A1
      isplitl [A2]; · iexists _; iexact A2
      isplitl [C0]; · iexists _; iexact C0
      isplitl [C1]; · iexists _; iexact C1
      isplitl [C2]; · iexists _; iexact C2
      isplitl; · iexists _; iexact O3
      iempintro
    isplitl [B0 B1 B2 O0 O1 O2]
    · isplitl [B0]; · iexists _; iexact B0
      isplitl [B1]; · iexists _; iexact B1
      isplitl [B2]; · iexists _; iexact B2
      isplitl [O0]; · iexists _; iexact O0
      isplitl [O1]; · iexists _; iexact O1
      isplitl; · iexists _; iexact O2
      iempintro
    · isplitl [D0]; · iexists _; iexact D0
      isplitl [D1]; · iexists _; iexact D1
      isplitl; · iexists _; iexact D2
      iempintro
  unfold buffers
  iintro ⟨⟨%fa, A⟩, ⟨%fb, B⟩, ⟨%fc, C⟩, ⟨%fd, D⟩, %fo, O⟩
  iapply (key fa fb fc fd fo)
  isplitl [A]; · iexact A
  isplitl [B]; · iexact B
  isplitl [C]; · iexact C
  isplitl [D] <;> iassumption

/-- What a device hands over, by signals. -/
theorem pays_intro (c : Dev nD) :
    iprop((lanes fun st d => denML m (backP d c) st d planePl) ∗ lanes fun st d => denML m (backZ d c) st d crossPl)
      ⊢ iprop(barPay m (bdst c 0) (bduty 0) ∗ barPay m (bdst c 1) (bduty 1) ∗ barPay m (bdst c 2) (bduty 2) ∗ barPay m (bdst c 3) (bduty 3)) := by
  show iprop((denML m (backP 0 c) 0 0 planePl ∗ denML m (backP 1 c) 0 1 planePl ∗ denML m (backP 0 c) 1 0 planePl ∗ denML m (backP 1 c) 1 1 planePl)
      ∗ (denML m (backZ 0 c) 0 0 crossPl ∗ denML m (backZ 1 c) 0 1 crossPl ∗ denML m (backZ 0 c) 1 0 crossPl ∗ denML m (backZ 1 c) 1 1 crossPl))
    ⊢ iprop((denML m (backP 1 c) 0 1 planePl ∗ denML m (backP 1 c) 1 1 planePl) ∗ (denML m (backP 0 c) 0 0 planePl ∗ denML m (backP 0 c) 1 0 planePl)
      ∗ (denML m (backZ 1 c) 0 1 crossPl ∗ denML m (backZ 1 c) 1 1 crossPl) ∗ (denML m (backZ 0 c) 0 0 crossPl ∗ denML m (backZ 0 c) 1 0 crossPl))
  iintro ⟨⟨A0, A1, A2, A3⟩, B0, B1, B2, B3⟩
  isplitl [A1 A3]; · isplitl [A1] <;> iassumption
  isplitl [A0 A2]; · isplitl [A0] <;> iassumption
  isplitl [B1 B3]; · isplitl [B1] <;> iassumption
  isplitl [B0] <;> iassumption

/-! ### The end -/

/-- The semaphores of a lane at zero. -/
def zeros (c : Dev nD) (st d : ℕ) : sProp 𝕄 :=
  iprop(sepL (fun h => semVal (sCell c st d h) 0) hops ∗ sepL (fun h => semVal (rCell c st d h) 0) hops)

/-- What the lanes hold at the end: the five buffers, the result complete, and their semaphores at zero. -/
theorem lanes_end (c : Dev nD) : (lanes fun st d => denL m c st d (laneAtoms 45))
    ⊢ iprop(saPt c Finset.univ (stA m c) ∗ raPt c Finset.univ (rcA m c) ∗ sbPt c Finset.univ (stB m c) ∗ rbPt c Finset.univ (rcB m c)
      ∗ oPt fullShare c Finset.univ (resC m) ∗ lanes fun st d => zeros c st d) := by
  rw [sa_lanes, ra_lanes, sb_lanes, rb_lanes, o_lanes, lanes_sep, lanes_sep, lanes_sep, lanes_sep, lanes_sep]
  refine lanes_mono fun st d _ _ => ?_
  have e : denL m c st d (laneAtoms 45) = iprop((denL m c st d (([.av 0, .av 1, .av 2, .ra 0, .ra 1, .ra 2, .bv 0, .bv 1, .bv 2,
      .rb 0, .rb 1, .rb 2, .ol 0, .ol 1, .ol 2, .ol 3, .br, .bf 0, .bf 1, .bf 2] : List MA).map .m) ∗ denL m c st d (hops.map .zs)) ∗ denL m c st d (hops.map .zr)) := by
    refine (sepL_perm _ laneAtoms_final).trans ?_
    rw [← sepL_append, ← sepL_append]; rfl
  rw [e, oPt_halves c (rows (blkRow d c 3) 128 st), rows_chunks fullShare.left]
  show iprop(((saPt c (slotA st d 0) (stA m c) ∗ saPt c (slotA st d 1) (stA m c) ∗ saPt c (slotA st d 2) (stA m c)
        ∗ raPt c (slotA st d 0) (rcA m c) ∗ raPt c (slotA st d 1) (rcA m c) ∗ raPt c (slotA st d 2) (rcA m c)
        ∗ sbPt c (slotB st d 0) (stB m c) ∗ sbPt c (slotB st d 1) (stB m c) ∗ sbPt c (slotB st d 2) (stB m c)
        ∗ rbPt c (slotB st d 0) (rcB m c) ∗ rbPt c (slotB st d 1) (rcB m c) ∗ rbPt c (slotB st d 2) (rcB m c)
        ∗ oPt fullShare.left c (rows (chRow d c 0) 32 st) (resC m) ∗ oPt fullShare.left c (rows (chRow d c 1) 32 st) (resC m)
        ∗ oPt fullShare.left c (rows (chRow d c 2) 32 st) (resC m) ∗ oPt fullShare.left c (rows (chRow d c 3) 32 st) (resC m)
        ∗ oPt fullShare.right c (rows (blkRow d c 3) 128 st) (resC m)
        ∗ oPt fullShare c (rows (blkRow d c 0) 128 st) (resC m) ∗ oPt fullShare c (rows (blkRow d c 1) 128 st) (resC m)
        ∗ oPt fullShare c (rows (blkRow d c 2) 128 st) (resC m) ∗ emp)
        ∗ sepL (fun h => semVal (sCell c st d h) 0) hops) ∗ sepL (fun h => semVal (rCell c st d h) 0) hops)
    ⊢ iprop((saPt c (slotA st d 0) (stA m c) ∗ saPt c (slotA st d 1) (stA m c) ∗ saPt c (slotA st d 2) (stA m c))
        ∗ (raPt c (slotA st d 0) (rcA m c) ∗ raPt c (slotA st d 1) (rcA m c) ∗ raPt c (slotA st d 2) (rcA m c))
        ∗ (sbPt c (slotB st d 0) (stB m c) ∗ sbPt c (slotB st d 1) (stB m c) ∗ sbPt c (slotB st d 2) (stB m c))
        ∗ (rbPt c (slotB st d 0) (rcB m c) ∗ rbPt c (slotB st d 1) (rcB m c) ∗ rbPt c (slotB st d 2) (rcB m c))
        ∗ (oPt fullShare c (rows (blkRow d c 0) 128 st) (resC m) ∗ oPt fullShare c (rows (blkRow d c 1) 128 st) (resC m)
          ∗ oPt fullShare c (rows (blkRow d c 2) 128 st) (resC m)
          ∗ (oPt fullShare.left c (rows (chRow d c 0) 32 st) (resC m) ∗ oPt fullShare.left c (rows (chRow d c 1) 32 st) (resC m)
            ∗ oPt fullShare.left c (rows (chRow d c 2) 32 st) (resC m) ∗ oPt fullShare.left c (rows (chRow d c 3) 32 st) (resC m))
          ∗ oPt fullShare.right c (rows (blkRow d c 3) 128 st) (resC m))
        ∗ sepL (fun h => semVal (sCell c st d h) 0) hops ∗ sepL (fun h => semVal (rCell c st d h) 0) hops)
  iintro ⟨⟨⟨A0, A1, A2, B0, B1, B2, C0, C1, C2, D0, D1, D2, O0, O1, O2, O3, P, Q0, Q1, Q2, -⟩, ZS⟩, ZR⟩
  isplitl [A0 A1 A2]
  · isplitl [A0]; · iexact A0
    isplitl [A1] <;> iassumption
  isplitl [B0 B1 B2]
  · isplitl [B0]; · iexact B0
    isplitl [B1] <;> iassumption
  isplitl [C0 C1 C2]
  · isplitl [C0]; · iexact C0
    isplitl [C1] <;> iassumption
  isplitl [D0 D1 D2]
  · isplitl [D0]; · iexact D0
    isplitl [D1] <;> iassumption
  isplitr [ZS ZR]
  · isplitl [Q0]; · iexact Q0
    isplitl [Q1]; · iexact Q1
    isplitl [Q2]; · iexact Q2
    isplitr [P]
    · isplitl [O0]; · iexact O0
      isplitl [O1]; · iexact O1
      isplitl [O2] <;> iassumption
    · iexact P
  · isplitl [ZS] <;> iassumption

end Cert.KernelIdeal.AllReduce
-- ==== Proof.Deal.lean ====
/-
# Dealing the tokens, the positions and the credit

A device's ninety-seven cells by lanes, the duty tokens sent to the devices that pay them, and the credit that the devices
owe each cell at launch.
-/
module

public import proofs.«01_k».proof.Proof.Bufs

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### A device's cells by lanes -/

/-- The number of a lane's send cell (`r = 0`) or receive cell (`r = 1`). -/
def cellNo (st d r h : ℕ) : Fin 97 := ⟨(qS st d h - 2 + 12 * r) % 97, Nat.mod_lt _ (by decide)⟩

theorem csem_S : ∀ st < 2, ∀ d < 2, ∀ h ∈ hops, csem (cellNo st d 0 h) = .dma (sS st d h) := by decide +kernel
theorem csem_R : ∀ st < 2, ∀ d < 2, ∀ h ∈ hops, csem (cellNo st d 1 h) = .dma (sR st d h) := by decide +kernel

/-- The numbers of a lane's cells. -/
def laneNos (st d : ℕ) : List (Fin 97) := hops.map (cellNo st d 0) ++ hops.map (cellNo st d 1)

/-- What a lane's cells hold. -/
def laneCells (Φ : SemLoc sig → sProp 𝕄) (st d : ℕ) : sProp 𝕄 :=
  iprop(sepL (fun h => Φ (.dma (sS st d h))) hops ∗ sepL (fun h => Φ (.dma (sR st d h))) hops)

omit [FloatOps F] in
theorem sepL_laneNos (Φ : SemLoc sig → sProp 𝕄) {st d : ℕ} (hst : st < 2) (hd : d < 2) :
    sepL (fun k => Φ (csem k)) (laneNos st d) = laneCells Φ st d := by
  unfold laneNos laneCells
  rw [sepL_append, sepL_map, sepL_map]
  exact congrArg₂ BIBase.sep (sepL_congr fun h hh => by rw [csem_S st hst d hd h hh]) (sepL_congr fun h hh => by rw [csem_R st hst d hd h hh])

omit [FloatOps F] in
/-- Something for each of the lanes' cells. -/
theorem sepL_allNos (Φ : SemLoc sig → sProp 𝕄) :
    sepL (fun k => Φ (csem k)) (laneNos 0 0 ++ (laneNos 0 1 ++ (laneNos 1 0 ++ laneNos 1 1))) = lanes (laneCells Φ) := by
  rw [sepL_append, sepL_append, sepL_append, sepL_laneNos Φ (by decide) (by decide), sepL_laneNos Φ (by decide) (by decide),
    sepL_laneNos Φ (by decide) (by decide), sepL_laneNos Φ (by decide) (by decide)]
  rfl

omit [FloatOps F] in
/-- Something for each of a device's cells: for the barrier cell, and for the lanes' cells. -/
theorem cells_lanes (Φ : SemLoc sig → sProp 𝕄) :
    (bigSep Finset.univ fun k : Fin 97 => Φ (csem k)) = iprop(Φ (.reg barS) ∗ lanes (laneCells Φ)) := by
  rw [bigSep_sepL (96 :: (laneNos 0 0 ++ (laneNos 0 1 ++ (laneNos 1 0 ++ laneNos 1 1)))) (by decide +kernel) (by decide +kernel)]
  show iprop(Φ (.reg barS) ∗ sepL (fun k => Φ (csem k)) _) = _
  rw [sepL_allNos]

/-! ### The tokens -/

/-- The device from which hop `h` comes. -/
def frm (d h : ℕ) (c : Dev nD) : Dev nD := if h / 3 = 0 ∨ h / 3 = 3 then backP d c else backZ d c
theorem frm_tgt (d h : ℕ) (c : Dev nD) : frm d h (tgt d h c) = c := by
  unfold frm tgt; split; exacts [backP_tgtP d c, backZ_tgtZ d c]
theorem tgt_frm (d h : ℕ) (c : Dev nD) : tgt d h (frm d h c) = c := by
  unfold frm tgt; split; exacts [tgtP_backP d c, tgtZ_backZ d c]
/-- A hop pairs the devices. -/
def hopE (d h : ℕ) : Dev nD ≃ Dev nD := ⟨tgt d h, frm d h, frm_tgt d h, tgt_frm d h⟩
def planeE (d : ℕ) : Dev nD ≃ Dev nD := ⟨tgtP d, backP d, backP_tgtP d, tgtP_backP d⟩
def crossE (d : ℕ) : Dev nD ≃ Dev nD := ⟨tgtZ d, backZ d, backZ_tgtZ d, tgtZ_backZ d⟩

/-- The duty tokens of a device's own cells. -/
def toks (c : Dev nD) : sProp 𝕄 :=
  iprop((bigSep Finset.univ fun k : Fin 97 => dutyTok ER (kcell (c, k)) 0 0)
    ∗ bigSep Finset.univ fun i : Fin 3 => dutyTok ER (barCell c) 0 i.succ)

/-- The tokens of the duties that a device pays. -/
def payToks (c : Dev nD) : sProp 𝕄 :=
  iprop((dutyTok ER (barCell (bdst c 0)) 0 (bduty 0) ∗ dutyTok ER (barCell (bdst c 1)) 0 (bduty 1)
      ∗ dutyTok ER (barCell (bdst c 2)) 0 (bduty 2) ∗ dutyTok ER (barCell (bdst c 3)) 0 (bduty 3))
    ∗ lanes fun st d => iprop(sepL (fun h => dutyTok ER (sCell c st d h) 0 0) hops
      ∗ sepL (fun h => dutyTok ER (rCell (tgt d h c) st d h) 0 0) hops))

omit [FloatOps F] in
/-- The tokens go to the devices that pay. -/
theorem toks_around : (bigSep Finset.univ fun c : Dev nD => (toks c : sProp 𝕄)) ⊢ bigSep Finset.univ fun c : Dev nD => payToks c := by
  have e1 : ∀ c : Dev nD, (toks c : sProp 𝕄) = iprop((dutyTok ER (barCell c) 0 0 ∗ lanes fun st d =>
      iprop(sepL (fun h => dutyTok ER (sCell c st d h) 0 0) hops ∗ sepL (fun h => dutyTok ER (rCell c st d h) 0 0) hops))
      ∗ dutyTok ER (barCell c) 0 1 ∗ dutyTok ER (barCell c) 0 2 ∗ dutyTok ER (barCell c) 0 3) := by
    intro c
    unfold toks
    rw [bigSep_univ_eq_bigSepL [0, 1, 2] (by decide) (by decide) fun i : Fin 3 => (dutyTok ER (barCell c) 0 i.succ : sProp 𝕄)]
    rw [show (bigSep Finset.univ fun k : Fin 97 => (dutyTok ER (kcell (c, k)) 0 0 : sProp 𝕄)) = _ from
      cells_lanes fun sm => dutyTok ER ((c : Thread nD τ), sm) 0 0]
    rfl
  have e2 : ∀ st d, (bigSep Finset.univ fun c : Dev nD => (sepL (fun h => dutyTok ER (rCell c st d h) 0 0) hops : sProp 𝕄))
      = bigSep Finset.univ fun c : Dev nD => sepL (fun h => dutyTok ER (rCell (tgt d h c) st d h) 0 0) hops := by
    intro st d
    rw [sepL_bigSep, sepL_bigSep]
    exact sepL_congr fun h _ => bigSep_univ_equiv (hopE d h) _
  rw [bigSep_congr fun c _ => e1 c]
  unfold payToks
  simp only [bigSep_sep', lanes_bigSep, e2]
  rw [bigSep_univ_equiv (planeE 0) (fun c : Dev nD => (dutyTok ER (barCell c) 0 1 : sProp 𝕄)),
    bigSep_univ_equiv (planeE 1) (fun c : Dev nD => (dutyTok ER (barCell c) 0 0 : sProp 𝕄)),
    bigSep_univ_equiv (crossE 0) (fun c : Dev nD => (dutyTok ER (barCell c) 0 3 : sProp 𝕄)),
    bigSep_univ_equiv (crossE 1) (fun c : Dev nD => (dutyTok ER (barCell c) 0 2 : sProp 𝕄))]
  iintro ⟨⟨H0, HL⟩, H1, H2, H3⟩
  isplitr [HL]
  · isplitl [H1]; · iexact H1
    isplitl [H0]; · iexact H0
    isplitl [H3]; · iexact H3
    iexact H2
  · iexact HL

/-! ### The credit -/

/-- What the devices owe at launch. -/
abbrev O₀ (c : Dev nD) : CellTallies nD τ sig Unit := owed c 0

theorem owedL_apply (l : List (GSem nD τ sig × ℕ)) (g : GSem nD τ sig) :
    owedL l g () = (l.map fun x => if g = x.1 then x.2 else 0).sum := by
  induction l with
  | nil => rfl
  | cons x l ih =>
    unfold owedL at ih ⊢
    rw [List.foldr_cons, Pi.add_apply, Finsupp.add_apply, ih, tallyAt_apply, List.map_cons, List.sum_cons, Nat.add_comm]
    congr 1
    by_cases h : g = x.1
    · rw [if_pos ⟨h, rfl⟩, if_pos h]
    · rw [if_neg (fun h' => h h'.1), if_neg h]

theorem sum_ite (a : ℕ × ℕ × ℕ) (n : ℕ) (l : List (ℕ × ℕ × ℕ)) : (l.map fun x => if x = a then n else 0).sum = l.count a * n := by
  induction l with
  | nil => simp
  | cons x l ih =>
    rw [List.map_cons, List.sum_cons, ih, List.count_cons]
    by_cases h : x = a
    · rw [if_pos h, if_pos (by simpa using h), Nat.add_mul, Nat.one_mul, Nat.add_comm]
    · rw [if_neg h, if_neg (by simpa using h), Nat.zero_add, Nat.add_zero]

theorem sum_zero {α : Type} (l : List α) (f : α → ℕ) (h : ∀ x ∈ l, f x = 0) : (l.map f).sum = 0 := by
  rw [List.map_congr_left h]
  induction l with
  | nil => rfl
  | cons x l ih => rw [List.map_cons, List.sum_cons, ih fun y hy => h y (List.mem_cons_of_mem _ hy)]

theorem bar_eq_iff {a b : Dev nD} : barCell a = barCell b ↔ a = b :=
  ⟨fun h => Fin.ext (congrArg (fun g : GSem nD τ sig => g.1.1.val) h), fun h => h ▸ rfl⟩
theorem rCell_ne_bar {a b : Dev nD} {st d h : ℕ} : barCell a ≠ rCell b st d h := fun h => nomatch (congrArg Prod.snd h)

theorem rCell_eq_iff {a b : Dev nD} {st d h st' d' h' : ℕ} (hst : st < 2) (hd : d < 2) (hh : h < 12) (hst' : st' < 2) (hd' : d' < 2) (hh' : h' < 12) :
    rCell a st d h = rCell b st' d' h' ↔ a = b ∧ (st', d', h') = (st, d, h) := by
  constructor
  · intro e
    have e1 : a = b := Fin.ext (congrArg (fun g : GSem nD τ sig => g.1.1.val) e)
    have e2 : sR st d h = sR st' d' h' := SemLoc.dma.inj (congrArg Prod.snd e)
    refine ⟨e1, ?_⟩
    have e3 : st' = st := (stOf_R hst' hd' hh').symm.trans ((congrArg (fun q : DmaSem sig => stOf q.val) e2.symm).trans (stOf_R hst hd hh))
    have e4 : d' = d := (dOf_R hst' hd' hh').symm.trans ((congrArg (fun q : DmaSem sig => dOf q.val) e2.symm).trans (dOf_R hst hd hh))
    have e5 : h' = h := (hOf_R hst' hd' hh').symm.trans ((congrArg (fun q : DmaSem sig => hOf q.val) e2.symm).trans (hOf_R hst hd hh))
    rw [e3, e4, e5]
  · rintro ⟨rfl, e⟩
    cases e; rfl

/-- What device `e` owes the barrier cell of `c`. -/
theorem owed_bar (e c : Dev nD) : O₀ e (barCell c) ()
    = (if e = backP 0 c then 1 else 0) + ((if e = backP 1 c then 1 else 0) + ((if e = backZ 0 c then 1 else 0) + (if e = backZ 1 c then 1 else 0))) := by
  show owedL (items e) _ _ = _
  rw [owedL_apply]
  unfold items
  simp only [List.map_cons, List.sum_cons, List.map_map]
  have h0 : (sendOrder.map ((fun x : GSem nD τ sig × ℕ => if barCell c = x.1 then x.2 else 0) ∘ fun x =>
      (rCell (tgt x.2.1 x.2.2 e) x.1 x.2.1 x.2.2, amt x.2.2))).sum = 0 := sum_zero _ _ fun x _ => if_neg rCell_ne_bar
  rw [h0, Nat.add_zero]
  have hP : ∀ d, (barCell c = barCell (tgtP d e)) ↔ e = backP d c := fun d => bar_eq_iff.trans
    ⟨fun h => by rw [h, backP_tgtP], fun h => by rw [h, tgtP_backP]⟩
  have hZ : ∀ d, (barCell c = barCell (tgtZ d e)) ↔ e = backZ d c := fun d => bar_eq_iff.trans
    ⟨fun h => by rw [h, backZ_tgtZ], fun h => by rw [h, tgtZ_backZ]⟩
  rw [if_congr (hP 0) rfl rfl, if_congr (hP 1) rfl rfl, if_congr (hZ 0) rfl rfl, if_congr (hZ 1) rfl rfl]

theorem count_send : ∀ st < 2, ∀ d < 2, ∀ h < 12, sendOrder.count (st, d, h) = 1 := by decide +kernel

/-- What device `e` owes a receive cell of `c`. -/
theorem owed_recv (e c : Dev nD) {st d h : ℕ} (hst : st < 2) (hd : d < 2) (hh : h < 12) :
    O₀ e (rCell c st d h) () = if e = frm d h c then amt h else 0 := by
  show owedL (items e) _ _ = _
  rw [owedL_apply]
  unfold items
  simp only [List.map_cons, List.sum_cons, List.map_map]
  rw [if_neg rCell_ne_bar.symm, if_neg rCell_ne_bar.symm, if_neg rCell_ne_bar.symm, if_neg rCell_ne_bar.symm, Nat.zero_add, Nat.zero_add, Nat.zero_add, Nat.zero_add]
  rw [List.map_congr_left (g := fun x => if x = (st, d, h) then (if e = frm d h c then amt h else 0) else 0) ?_, sum_ite, count_send st hst d hd h hh, Nat.one_mul]
  intro x hx
  obtain ⟨h1, h2, h3⟩ := sendOrder_lt x hx
  show (if rCell c st d h = rCell (tgt x.2.1 x.2.2 e) x.1 x.2.1 x.2.2 then amt x.2.2 else 0) = _
  by_cases hx' : x = (st, d, h)
  · subst hx'
    rw [if_pos rfl]
    refine if_congr ((rCell_eq_iff hst hd hh hst hd hh).trans ?_) rfl rfl
    exact ⟨fun h => by rw [h.1, frm_tgt], fun h => ⟨by rw [h, tgt_frm], rfl⟩⟩
  · rw [if_neg hx', if_neg fun h => hx' ((rCell_eq_iff hst hd hh h1 h2 h3).mp h).2]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun e _ => owed_bar e c]
  simp only [Finset.sum_add_distrib, Finset.sum_ite_eq', Finset.mem_univ, if_true, Nat.reduceAdd]

theorem launch_recv (c : Dev nD) {st d h : ℕ} (hst : st < 2) (hd : d < 2) (hh : h < 12) :
    tallyOn (rCell c st d h) (launchCredit (Pipeline.owing O₀) 0 (rCell c st d h)) = (tallyAt (rCell c st d h) () (amt h) : CellTallies nD τ sig Unit) := by
  unfold tallyAt; refine congrArg _ (Finsupp.ext fun u => ?_); cases u
  rw [Pipeline.launchCredit_owing, Finsupp.single_eq_same, Finset.sum_congr rfl fun e _ => owed_recv e c hst hd hh]
  simp only [Finset.sum_ite_eq', Finset.mem_univ, if_true]

theorem csem_injective : Function.Injective csem := by
  intro k k' h
  unfold csem at h
  have hk := k.isLt
  have hk' := k'.isLt
  split at h <;> split at h
  · have h' := congrArg Fin.val (SemLoc.dma.inj h)
    exact Fin.ext (by simp only at h'; omega)
  · cases h
  · cases h
  · exact Fin.ext (by omega)

/-- The credit of a device's barrier cell and of its receive cells. -/
def credits (c : Dev nD) : sProp 𝕄 :=
  iprop(cred (tallyAt (barCell c) () 4) ∗ lanes fun st d => sepL (fun h => cred (tallyAt (rCell c st d h) () (amt h))) hops)

theorem hops_lt : ∀ h ∈ hops, h < 12 := by decide

omit [FloatOps F] in
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map]
  refine (Entails.of_eq (cells_lanes fun sm => cred (tallyOn ((c : Thread nD τ), sm) (launchCredit (Pipeline.owing O₀) 0 ((c : Thread nD τ), sm))))).trans ?_
  refine (Entails.of_eq (congrArg (fun P => iprop(P ∗ _)) (congrArg cred (launch_bar c)))).trans ?_
  refine sep_mono_right (lanes_mono fun st d hst hd => ?_)
  unfold laneCells
  refine BIBase.Entails.trans (Q := sepL (fun h => cred (tallyOn (rCell c st d h) (launchCredit (Pipeline.owing O₀) 0 (rCell c st d h)))) hops) ?_ ?_
  · iintro ⟨-, H⟩; iexact H
  · exact sepL_mono fun h hh => Entails.of_eq (congrArg cred (launch_recv c hst hd (hops_lt h hh)))

end Cert.KernelIdeal.AllReduce
-- ==== Proof.Parts1.lean ====
/-
# Parts 1 to 15

The triples of the program's parts 1 to 15: what each does to a device's state. A state is named by the number of steps that
each of the four lanes has made and the number of additions to other devices' cells.
-/
module

public import proofs.«01_k».proof.Proof.Start

@[expose] public section

set_option maxRecDepth 20000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ}
variable {K : Dev nD × Fin 97 → ℕ} {c : Dev nD}

theorem part1 :
    HT m K c (St0 m c 0) (k0_part1 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun v => v.1 = c) (St0 m c 0) := by
  rw [k0_part1_eq_skeleton]; unfold k0_part1_skel
  refine ht_bind ht_device ?_; rintro d0 rfl
  exact ht_pure _ rfl

theorem part2 {v20 v24 v28 v32 v36 : BitVec 32} :
    HT m K c (St0 m c 0) (k0_part2 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28 v32 v36)
      (fun _ => True) (St m c (1, 0, 0, 0) 4) := by
  rw [k0_part2_eq_skeleton]; unfold k0_part2_skel
  refine ht_bind (ht_signal 0 rfl (dev1_at c)) ?_; intro _ _
  refine ht_bind (ht_signal 1 rfl (dev2_at c)) ?_; intro _ _
  refine ht_bind (ht_signal 2 rfl (dev3_at c)) ?_; intro _ _
  refine ht_bind (ht_signal 3 rfl (dev4_at c)) ?_; intro _ _
  refine ht_bind (ht_wait_bar rfl) ?_; intro _ _
  refine ht_bind (ld_x 0 0 0 (off1_0_at c)) ?_; intro _ hv; subst hv
  refine ht_bind (dl_sa 0 0 0 (by decide) (by decide) (by decide +kernel) rfl) ?_; intro _ _
  refine ht_bind (st_sa (.prepA) 0 0 0 (by decide) (by decide) rfl rfl rfl rfl (pay_prepA m c 0 0)) ?_; intro _ _
  exact ht_pure _ trivial

theorem part3 {v20 v24 : BitVec 32} :
    HT m K c (St m c (1, 0, 0, 0) 4) (k0_part3 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24)
      (fun _ => True) (St m c (2, 1, 0, 0) 5) := by
  rw [k0_part3_eq_skeleton]; unfold k0_part3_skel
  refine ht_bind (ld_x 0 1 0 (off1_1_at c)) ?_; intro _ hv; subst hv
  refine ht_bind (dl_sa 0 1 0 (by decide) (by decide) (by decide +kernel) rfl) ?_; intro _ _
  refine ht_bind (st_sa (.prepA) 0 1 0 (by decide) (by decide) rfl rfl rfl rfl (pay_prepA m c 0 1)) ?_; intro _ _
  refine ht_bind (send_A 0 0 0 (by decide) (by decide) (by decide) rfl rfl (dev5_at c) rfl rfl rfl rfl) ?_; intro _ _
  exact ht_pure _ trivial

theorem part4 {v20 v24 v28 c1_i32_81 : BitVec 32} :
    HT m K c (St m c (2, 1, 0, 0) 5) (k0_part4 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28 c1_i32_81)
      (fun _ => True) (St m c (3, 2, 0, 0) 6) := by
  rw [k0_part4_eq_skeleton]; unfold k0_part4_skel
  refine ht_bind (send_A 0 1 0 (by decide) (by decide) (by decide) rfl rfl (dev6_at c) rfl rfl rfl rfl) ?_; intro _ _
  refine ht_bind (wait_recv 0 0 0 (by decide) (by decide) (by decide) rfl rfl rfl (by decide +kernel)) ?_; intro _ _
  exact ht_pure _ trivial

theorem part5 {v20 v28 v102 : BitVec 32} :
    HT m K c (St m c (3, 2, 0, 0) 6) (k0_part5 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v28 v102)
      (fun v => v.2 = (raV m c 0 1 0)) (St m c (4, 3, 0, 0) 6) := by
  rw [k0_part5_eq_skeleton]; unfold k0_part5_skel
  refine ht_bind (ld_ra 0 0 0 (by decide) (by decide) (by decide +kernel) rfl) ?_; intro _ hv; subst hv
  refine ht_bind (ld_x 0 0 1 (off2_0_at c)) ?_; intro _ hv; subst hv
  refine ht_bind (dl_sa 0 0 1 (by decide) (by decide) (by decide +kernel) rfl) ?_; intro _ _
  refine ht_bind (st_sa (.finA 0) 0 0 1 (by decide) (by decide) rfl rfl rfl rfl (pay_finA m c 0 0 0)) ?_; intro _ _
  refine ht_bind (wait_recv 0 1 0 (by decide) (by decide) (by decide) rfl rfl rfl (by decide +kernel)) ?_; intro _ _
  refine ht_bind (ld_ra 0 1 0 (by decide) (by decide) (by decide +kernel) rfl) ?_; intro _ hv; subst hv
  exact ht_pure _ rfl

theorem part6 {v24 v28 v124 : BitVec 32} :
    HT m K c (St m c (4, 3, 0, 0) 6) (k0_part6 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28 v124 (raV m c 0 1 0))
      (fun _ => True) (St m c (5, 4, 0, 0) 7) := by
  rw [k0_part6_eq_skeleton]; unfold k0_part6_skel
  refine ht_bind (ld_x 0 1 1 (off3_0_at c)) ?_; intro _ hv; subst hv
  refine ht_bind (dl_sa 0 1 1 (by decide) (by decide) (by decide +kernel) rfl) ?_; intro _ _
  refine ht_bind (st_sa (.finA 0) 0 1 1 (by decide) (by decide) rfl rfl rfl rfl (pay_finA m c 0 1 0)) ?_; intro _ _
  refine ht_bind (send_A 0 0 1 (by decide) (by decide) (by decide) rfl rfl (dev7_at c) rfl rfl rfl rfl) ?_; intro _ _
  exact ht_pure _ trivial

theorem part7 {v20 v144 c0_i32_188 : BitVec 32} :
    HT m K c (St m c (5, 4, 0, 0) 7) (k0_part7 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v144 c0_i32_188)
      (fun _ => True) (St m c (5, 5, 1, 1) 8) := by
  rw [k0_part7_eq_skeleton]; unfold k0_part7_skel
  refine ht_bind (send_A 0 1 1 (by decide) (by decide) (by decide) rfl rfl (dev8_at c) rfl rfl rfl rfl) ?_; intro _ _
  refine ht_bind (ld_x 1 0 0 (off4_0_at c)) ?_; intro _ hv; subst hv
  refine ht_bind (dl_sa 1 0 0 (by decide) (by decide) (by decide +kernel) rfl) ?_; intro _ _
  refine ht_bind (st_sa (.prepA) 1 0 0 (by decide) (by decide) rfl rfl rfl rfl (pay_prepA m c 1 0)) ?_; intro _ _
  refine ht_bind (ld_x 1 1 0 (off4_1_at c)) ?_; intro _ hv; subst hv
  refine ht_bind (dl_sa 1 1 0 (by decide) (by decide) (by decide +kernel) rfl) ?_; intro _ _
  refine ht_bind (st_sa (.prepA) 1 1 0 (by decide) (by decide) rfl rfl rfl rfl (pay_prepA m c 1 1)) ?_; intro _ _
  exact ht_pure _ trivial

theorem part8 {v24 v28 : BitVec 32} :
    HT m K c (St m c (5, 5, 1, 1) 8) (k0_part8 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28)
      (fun _ => True) (St m c (5, 5, 2, 2) 10) := by
  rw [k0_part8_eq_skeleton]; unfold k0_part8_skel
  refine ht_bind (send_A 1 0 0 (by decide) (by decide) (by decide) rfl rfl (dev9_at c) rfl rfl rfl rfl) ?_; intro _ _
  refine ht_bind (send_A 1 1 0 (by decide) (by decide) (by decide) rfl rfl (dev10_at c) rfl rfl rfl rfl) ?_; intro _ _
  exact ht_pure _ trivial

theorem part9 {v20 v24 : BitVec 32} :
    HT m K c (St m c (5, 5, 2, 2) 10) (k0_part9 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24)
      (fun _ => True) (St m c (7, 5, 2, 2) 10) := by
  rw [k0_part9_eq_skeleton]; unfold k0_part9_skel
  refine ht_bind (wait_recv 0 0 1 (by decide) (by decide) (by decide) rfl rfl rfl (by decide +kernel)) ?_; intro _ _
  refine ht_bind (ld_ra 0 0 1 (by decide) (by decide) (by decide +kernel) rfl) ?_; intro _ hv; subst hv
  refine ht_bind (ld_x 0 0 2 (off2_1_at c)) ?_; intro _ hv; subst hv
  refine ht_bind (dl_sa 0 0 2 (by decide) (by decide) (by decide +kernel) rfl) ?_; intro _ _
  refine ht_bind (st_sa (.finA 1) 0 0 2 (by decide) (by decide) rfl rfl rfl rfl (pay_finA m c 0 0 1)) ?_; intro _ _
  exact ht_pure _ trivial

theorem part10 {v20 v28 : BitVec 32} :
    HT m K c (St m c (7, 5, 2, 2) 10) (k0_part10 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v28)
      (fun _ => True) (St m c (7, 7, 2, 2) 10) := by
  rw [k0_part10_eq_skeleton]; unfold k0_part10_skel
  refine ht_bind (wait_recv 0 1 1 (by decide) (by decide) (by decide) rfl rfl rfl (by decide +kernel)) ?_; intro _ _
  refine ht_bind (ld_ra 0 1 1 (by decide) (by decide) (by decide +kernel) rfl) ?_; intro _ hv; subst hv
  refine ht_bind (ld_x 0 1 2 (off3_1_at c)) ?_; intro _ hv; subst hv
  refine ht_bind (dl_sa 0 1 2 (by decide) (by decide) (by decide +kernel) rfl) ?_; intro _ _
  refine ht_bind (st_sa (.finA 1) 0 1 2 (by decide) (by decide) rfl rfl rfl rfl (pay_finA m c 0 1 1)) ?_; intro _ _
  exact ht_pure _ trivial

theorem part11 {v20 v24 : BitVec 32} :
    HT m K c (St m c (7, 7, 2, 2) 10) (k0_part11 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24)
      (fun _ => True) (St m c (7, 7, 4, 2) 10) := by
  rw [k0_part11_eq_skeleton]; unfold k0_part11_skel
  refine ht_bind (wait_recv 1 0 0 (by decide) (by decide) (by decide) rfl rfl rfl (by decide +kernel)) ?_; intro _ _
  refine ht_bind (ld_ra 1 0 0 (by decide) (by decide) (by decide +kernel) rfl) ?_; intro _ hv; subst hv
  refine ht_bind (ld_x 1 0 1 (off5_0_at c)) ?_; intro _ hv; subst hv
  refine ht_bind (dl_sa 1 0 1 (by decide) (by decide) (by decide +kernel) rfl) ?_; intro _ _
  refine ht_bind (st_sa (.finA 0) 1 0 1 (by decide) (by decide) rfl rfl rfl rfl (pay_finA m c 1 0 0)) ?_; intro _ _
  exact ht_pure _ trivial

theorem part12 {v20 v28 : BitVec 32} :
    HT m K c (St m c (7, 7, 4, 2) 10) (k0_part12 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v28)
      (fun _ => True) (St m c (7, 7, 4, 4) 10) := by
  rw [k0_part12_eq_skeleton]; unfold k0_part12_skel
  refine ht_bind (wait_recv 1 1 0 (by decide) (by decide) (by decide) rfl rfl rfl (by decide +kernel)) ?_; intro _ _
  refine ht_bind (ld_ra 1 1 0 (by decide) (by decide) (by decide +kernel) rfl) ?_; intro _ hv; subst hv
  refine ht_bind (ld_x 1 1 1 (off6_0_at c)) ?_; intro _ hv; subst hv
  refine ht_bind (dl_sa 1 1 1 (by decide) (by decide) (by decide +kernel) rfl) ?_; intro _ _
  refine ht_bind (st_sa (.finA 0) 1 1 1 (by decide) (by decide) rfl rfl rfl rfl (pay_finA m c 1 1 0)) ?_; intro _ _
  exact ht_pure _ trivial

theorem part13 {v24 v28 : BitVec 32} :
    HT m K c (St m c (7, 7, 4, 4) 10) (k0_part13 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28)
      (fun _ => True) (St m c (8, 8, 4, 4) 12) := by
  rw [k0_part13_eq_skeleton]; unfold k0_part13_skel
  refine ht_bind (send_A 0 0 2 (by decide) (by decide) (by decide) rfl rfl (dev11_at c) rfl rfl rfl rfl) ?_; intro _ _
  refine ht_bind (send_A 0 1 2 (by decide) (by decide) (by decide) rfl rfl (dev12_at c) rfl rfl rfl rfl) ?_; intro _ _
  exact ht_pure _ trivial

theorem part14 {v24 v28 v300 : BitVec 32} :
    HT m K c (St m c (8, 8, 4, 4) 12) (k0_part14 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28 v300)
      (fun _ => True) (St m c (8, 8, 5, 5) 14) := by
  rw [k0_part14_eq_skeleton]; unfold k0_part14_skel
  refine ht_bind (send_A 1 0 1 (by decide) (by decide) (by decide) rfl rfl (dev13_at c) rfl rfl rfl rfl) ?_; intro _ _
  refine ht_bind (send_A 1 1 1 (by decide) (by decide) (by decide) rfl rfl (dev14_at c) rfl rfl rfl rfl) ?_; intro _ _
  exact ht_pure _ trivial

theorem part15 {v20 v28 : BitVec 32} :
    HT m K c (St m c (8, 8, 5, 5) 14) (k0_part15 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v28)
      (fun _ => True) (St m c (10, 8, 5, 5) 14) := by
  rw [k0_part15_eq_skeleton]; unfold k0_part15_skel
  refine ht_bind (wait_recv 0 0 2 (by decide) (by decide) (by decide) rfl rfl rfl (by decide +kernel)) ?_; intro _ _
  refine ht_bind (ld_ra 0 0 2 (by decide) (by decide) (by decide +kernel) rfl) ?_; intro _ hv; subst hv
  refine ht_bind (ld_x 0 0 3 (off2_2_at c)) ?_; intro _ hv; subst hv
  refine ht_bind (dl_oA 0 0 (by decide) (by decide) (by decide +kernel) (off7_at c)) ?_; intro _ _
  refine ht_bind (st_oA 0 0 (by decide) (by decide) rfl (off7_at c) (pay_finA2 m c 0 0)) ?_; intro _ _
  exact ht_pure _ trivial

end Cert.KernelIdeal.AllReduce
-- ==== Proof.Parts2.lean ====
/-
# Parts 16 to 30

The triples of the program's parts 16 to 30: what each does to a device's state. A state is named by the number of steps that
each of the four lanes has made and the number of additions to other devices' cells.
-/
module

public import proofs.«01_k».proof.Proof.Start

@[expose] public section

set_option maxRecDepth 20000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ}
variable {K : Dev nD × Fin 97 → ℕ} {c : Dev nD}

theorem part16 {v20 v24 : BitVec 32} :
    HT m K c (St m c (10, 8, 5, 5) 14) (k0_part16 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24)
      (fun _ => True) (St m c (10, 10, 5, 5) 14) := by
  rw [k0_part16_eq_skeleton]; unfold k0_part16_skel
  refine ht_bind (wait_recv 0 1 2 (by decide) (by decide) (by decide) rfl rfl rfl (by decide +kernel)) ?_; intro _ _
  refine ht_bind (ld_ra 0 1 2 (by decide) (by decide) (by decide +kernel) rfl) ?_; intro _ hv; subst hv
  refine ht_bind (ld_x 0 1 3 (off3_2_at c)) ?_; intro _ hv; subst hv
  refine ht_bind (dl_oA 0 1 (by decide) (by decide) (by decide +kernel) (off8_at c)) ?_; intro _ _
  refine ht_bind (st_oA 0 1 (by decide) (by decide) rfl (off8_at c) (pay_finA2 m c 0 1)) ?_; intro _ _
  exact ht_pure _ trivial

theorem part17 {v20 v28 : BitVec 32} :
    HT m K c (St m c (10, 10, 5, 5) 14) (k0_part17 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v28)
      (fun _ => True) (St m c (10, 10, 7, 5) 14) := by
  rw [k0_part17_eq_skeleton]; unfold k0_part17_skel
  refine ht_bind (wait_recv 1 0 1 (by decide) (by decide) (by decide) rfl rfl rfl (by decide +kernel)) ?_; intro _ _
  refine ht_bind (ld_ra 1 0 1 (by decide) (by decide) (by decide +kernel) rfl) ?_; intro _ hv; subst hv
  refine ht_bind (ld_x 1 0 2 (off5_1_at c)) ?_; intro _ hv; subst hv
  refine ht_bind (dl_sa 1 0 2 (by decide) (by decide) (by decide +kernel) rfl) ?_; intro _ _
  refine ht_bind (st_sa (.finA 1) 1 0 2 (by decide) (by decide) rfl rfl rfl rfl (pay_finA m c 1 0 1)) ?_; intro _ _
  exact ht_pure _ trivial

theorem part18 {v19 v20 v50 v52 : BitVec 32} :
    HT m K c (St m c (10, 10, 7, 5) 14) (k0_part18 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v20 v50 v52)
      (fun v => v = k0_pay16 (ochV m c 0 1 0)) (St m c (11, 10, 7, 7) 14) := by
  rw [k0_part18_eq_skeleton]; unfold k0_part18_skel
  refine ht_bind (wait_recv 1 1 1 (by decide) (by decide) (by decide) rfl rfl rfl (by decide +kernel)) ?_; intro _ _
  refine ht_bind (ld_ra 1 1 1 (by decide) (by decide) (by decide +kernel) rfl) ?_; intro _ hv; subst hv
  refine ht_bind (ld_x 1 1 2 (off6_1_at c)) ?_; intro _ hv; subst hv
  refine ht_bind (dl_sa 1 1 2 (by decide) (by decide) (by decide +kernel) rfl) ?_; intro _ _
  refine ht_bind (st_sa (.finA 1) 1 1 2 (by decide) (by decide) rfl rfl rfl rfl (pay_finA m c 1 1 1)) ?_; intro _ _
  refine ht_bind (ld_och 0 0 0 (by decide) (by decide) (by decide +kernel) (off9_at c)) ?_; intro _ hv; subst hv
  refine ht_bind (dl_sb 0 0 0 (by decide) (by decide) (by decide +kernel) rfl) ?_; intro _ _
  refine ht_bind (st_sb (.prepB) 0 0 0 (by decide) (by decide) rfl rfl rfl rfl (pay_prepB m c 0 0)) ?_; intro _ _
  refine ht_bind (ld_och 0 1 0 (by decide) (by decide) (by decide +kernel) (off10_at c)) ?_; intro _ hv; subst hv
  exact ht_pure _ rfl

theorem part19 {v32 v36 : BitVec 32} :
    HT m K c (St m c (11, 10, 7, 7) 14) (k0_part19 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v32 v36 (k0_pay16 (ochV m c 0 1 0)))
      (fun _ => True) (St m c (12, 11, 7, 7) 15) := by
  rw [k0_part19_eq_skeleton]; unfold k0_part19_skel
  refine ht_bind (dl_sb 0 1 0 (by decide) (by decide) (by decide +kernel) rfl) ?_; intro _ _
  refine ht_bind (st_sb (.prepB) 0 1 0 (by decide) (by decide) rfl rfl rfl rfl (pay_prepB m c 0 1)) ?_; intro _ _
  refine ht_bind (send_B 0 0 0 (by decide) (by decide) (by decide) rfl rfl (dev15_at c) rfl rfl rfl rfl) ?_; intro _ _
  exact ht_pure _ trivial

theorem part20 {v24 v28 : BitVec 32} :
    HT m K c (St m c (12, 11, 7, 7) 15) (k0_part20 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28)
      (fun _ => True) (St m c (12, 12, 8, 7) 17) := by
  rw [k0_part20_eq_skeleton]; unfold k0_part20_skel
  refine ht_bind (send_B 0 1 0 (by decide) (by decide) (by decide) rfl rfl (dev16_at c) rfl rfl rfl rfl) ?_; intro _ _
  refine ht_bind (send_A 1 0 2 (by decide) (by decide) (by decide) rfl rfl (dev17_at c) rfl rfl rfl rfl) ?_; intro _ _
  exact ht_pure _ trivial

theorem part21 {v19 v32 v50 : BitVec 32} :
    HT m K c (St m c (12, 12, 8, 7) 17) (k0_part21 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v50)
      (fun v => v = k0_pay18 (rbV m c 0 0 0) (ochV m c 0 0 1)) (St m c (13, 12, 8, 8) 18) := by
  rw [k0_part21_eq_skeleton]; unfold k0_part21_skel
  refine ht_bind (send_A 1 1 2 (by decide) (by decide) (by decide) rfl rfl (dev18_at c) rfl rfl rfl rfl) ?_; intro _ _
  refine ht_bind (wait_recv 0 0 3 (by decide) (by decide) (by decide) rfl rfl rfl (by decide +kernel)) ?_; intro _ _
  refine ht_bind (ld_rb 0 0 0 (by decide) (by decide) (by decide +kernel) rfl) ?_; intro _ hv; subst hv
  refine ht_bind (ld_och 0 0 1 (by decide) (by decide) (by decide +kernel) (off11_0_at c)) ?_; intro _ hv; subst hv
  refine ht_bind (dl_sb 0 0 1 (by decide) (by decide) (by decide +kernel) rfl) ?_; intro _ _
  exact ht_pure _ rfl

theorem part22 {v19 v36 v52 : BitVec 32} :
    HT m K c (St m c (13, 12, 8, 8) 18) (k0_part22 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v36 v52 (k0_pay18 (rbV m c 0 0 0) (ochV m c 0 0 1)))
      (fun _ => True) (St m c (14, 14, 8, 8) 18) := by
  rw [k0_part22_eq_skeleton]; unfold k0_part22_skel
  refine ht_bind (st_sb (.finB 0) 0 0 1 (by decide) (by decide) rfl rfl rfl rfl (pay_finB m c 0 0 0)) ?_; intro _ _
  refine ht_bind (wait_recv 0 1 3 (by decide) (by decide) (by decide) rfl rfl rfl (by decide +kernel)) ?_; intro _ _
  refine ht_bind (ld_rb 0 1 0 (by decide) (by decide) (by decide +kernel) rfl) ?_; intro _ hv; subst hv
  refine ht_bind (ld_och 0 1 1 (by decide) (by decide) (by decide +kernel) (off12_0_at c)) ?_; intro _ hv; subst hv
  refine ht_bind (dl_sb 0 1 1 (by decide) (by decide) (by decide +kernel) rfl) ?_; intro _ _
  refine ht_bind (st_sb (.finB 0) 0 1 1 (by decide) (by decide) rfl rfl rfl rfl (pay_finB m c 0 1 0)) ?_; intro _ _
  exact ht_pure _ trivial

theorem part23 {v20 v24 : BitVec 32} :
    HT m K c (St m c (14, 14, 8, 8) 18) (k0_part23 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24)
      (fun _ => True) (St m c (14, 14, 10, 8) 18) := by
  rw [k0_part23_eq_skeleton]; unfold k0_part23_skel
  refine ht_bind (wait_recv 1 0 2 (by decide) (by decide) (by decide) rfl rfl rfl (by decide +kernel)) ?_; intro _ _
  refine ht_bind (ld_ra 1 0 2 (by decide) (by decide) (by decide +kernel) rfl) ?_; intro _ hv; subst hv
  refine ht_bind (ld_x 1 0 3 (off5_2_at c)) ?_; intro _ hv; subst hv
  refine ht_bind (dl_oA 1 0 (by decide) (by decide) (by decide +kernel) (off13_at c)) ?_; intro _ _
  refine ht_bind (st_oA 1 0 (by decide) (by decide) rfl (off13_at c) (pay_finA2 m c 1 0)) ?_; intro _ _
  exact ht_pure _ trivial

theorem part24 {v20 v28 : BitVec 32} :
    HT m K c (St m c (14, 14, 10, 8) 18) (k0_part24 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v28)
      (fun _ => True) (St m c (14, 14, 10, 10) 18) := by
  rw [k0_part24_eq_skeleton]; unfold k0_part24_skel
  refine ht_bind (wait_recv 1 1 2 (by decide) (by decide) (by decide) rfl rfl rfl (by decide +kernel)) ?_; intro _ _
  refine ht_bind (ld_ra 1 1 2 (by decide) (by decide) (by decide +kernel) rfl) ?_; intro _ hv; subst hv
  refine ht_bind (ld_x 1 1 3 (off6_2_at c)) ?_; intro _ hv; subst hv
  refine ht_bind (dl_oA 1 1 (by decide) (by decide) (by decide +kernel) (off14_at c)) ?_; intro _ _
  refine ht_bind (st_oA 1 1 (by decide) (by decide) rfl (off14_at c) (pay_finA2 m c 1 1)) ?_; intro _ _
  exact ht_pure _ trivial

theorem part25 {v19 v32 v36 v50 : BitVec 32} :
    HT m K c (St m c (14, 14, 10, 10) 18) (k0_part25 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50)
      (fun v => v = k0_pay22 (ochV m c 1 0 0)) (St m c (15, 15, 10, 10) 20) := by
  rw [k0_part25_eq_skeleton]; unfold k0_part25_skel
  refine ht_bind (send_B 0 0 1 (by decide) (by decide) (by decide) rfl rfl (dev19_at c) rfl rfl rfl rfl) ?_; intro _ _
  refine ht_bind (send_B 0 1 1 (by decide) (by decide) (by decide) rfl rfl (dev20_at c) rfl rfl rfl rfl) ?_; intro _ _
  refine ht_bind (ld_och 1 0 0 (by decide) (by decide) (by decide +kernel) (off15_at c)) ?_; intro _ hv; subst hv
  refine ht_bind (dl_sb 1 0 0 (by decide) (by decide) (by decide +kernel) rfl) ?_; intro _ _
  exact ht_pure _ rfl

theorem part26 {v19 v32 v52 : BitVec 32} :
    HT m K c (St m c (15, 15, 10, 10) 20) (k0_part26 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v52 (k0_pay22 (ochV m c 1 0 0)))
      (fun _ => True) (St m c (15, 15, 12, 11) 21) := by
  rw [k0_part26_eq_skeleton]; unfold k0_part26_skel
  refine ht_bind (st_sb (.prepB) 1 0 0 (by decide) (by decide) rfl rfl rfl rfl (pay_prepB m c 1 0)) ?_; intro _ _
  refine ht_bind (ld_och 1 1 0 (by decide) (by decide) (by decide +kernel) (off16_at c)) ?_; intro _ hv; subst hv
  refine ht_bind (dl_sb 1 1 0 (by decide) (by decide) (by decide +kernel) rfl) ?_; intro _ _
  refine ht_bind (st_sb (.prepB) 1 1 0 (by decide) (by decide) rfl rfl rfl rfl (pay_prepB m c 1 1)) ?_; intro _ _
  refine ht_bind (send_B 1 0 0 (by decide) (by decide) (by decide) rfl rfl (dev21_at c) rfl rfl rfl rfl) ?_; intro _ _
  exact ht_pure _ trivial

theorem part27 {v19 v32 v36 v50 c1_i32_887 : BitVec 32} :
    HT m K c (St m c (15, 15, 12, 11) 21) (k0_part27 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50 c1_i32_887)
      (fun v => v.2 = (rbV m c 0 0 1)) (St m c (16, 15, 12, 12) 22) := by
  rw [k0_part27_eq_skeleton]; unfold k0_part27_skel
  refine ht_bind (send_B 1 1 0 (by decide) (by decide) (by decide) rfl rfl (dev22_at c) rfl rfl rfl rfl) ?_; intro _ _
  refine ht_bind (wait_recv 0 0 4 (by decide) (by decide) (by decide) rfl rfl rfl (by decide +kernel)) ?_; intro _ _
  refine ht_bind (ld_rb 0 0 1 (by decide) (by decide) (by decide +kernel) rfl) ?_; intro _ hv; subst hv
  exact ht_pure _ rfl

theorem part28 {v19 v36 v52 v621 : BitVec 32} :
    HT m K c (St m c (16, 15, 12, 12) 22) (k0_part28 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v36 v52 v621 (rbV m c 0 0 1))
      (fun v => v = k0_pay26 (rbV m c 0 1 1)) (St m c (17, 16, 12, 12) 22) := by
  rw [k0_part28_eq_skeleton]; unfold k0_part28_skel
  refine ht_bind (ld_och 0 0 2 (by decide) (by decide) (by decide +kernel) (off11_1_at c)) ?_; intro _ hv; subst hv
  refine ht_bind (dl_sb 0 0 2 (by decide) (by decide) (by decide +kernel) rfl) ?_; intro _ _
  refine ht_bind (st_sb (.finB 1) 0 0 2 (by decide) (by decide) rfl rfl rfl rfl (pay_finB m c 0 0 1)) ?_; intro _ _
  refine ht_bind (wait_recv 0 1 4 (by decide) (by decide) (by decide) rfl rfl rfl (by decide +kernel)) ?_; intro _ _
  refine ht_bind (ld_rb 0 1 1 (by decide) (by decide) (by decide +kernel) rfl) ?_; intro _ hv; subst hv
  exact ht_pure _ rfl

theorem part29 {v19 v32 v50 : BitVec 32} :
    HT m K c (St m c (17, 16, 12, 12) 22) (k0_part29 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v50 (k0_pay26 (rbV m c 0 1 1)))
      (fun v => v.1 = k0_pay28 (rbV m c 1 0 0) ∧ v.2 = (ochV m c 1 0 1)) (St m c (17, 17, 13, 12) 22) := by
  rw [k0_part29_eq_skeleton]; unfold k0_part29_skel
  refine ht_bind (ld_och 0 1 2 (by decide) (by decide) (by decide +kernel) (off12_1_at c)) ?_; intro _ hv; subst hv
  refine ht_bind (dl_sb 0 1 2 (by decide) (by decide) (by decide +kernel) rfl) ?_; intro _ _
  refine ht_bind (st_sb (.finB 1) 0 1 2 (by decide) (by decide) rfl rfl rfl rfl (pay_finB m c 0 1 1)) ?_; intro _ _
  refine ht_bind (wait_recv 1 0 3 (by decide) (by decide) (by decide) rfl rfl rfl (by decide +kernel)) ?_; intro _ _
  refine ht_bind (ld_rb 1 0 0 (by decide) (by decide) (by decide +kernel) rfl) ?_; intro _ hv; subst hv
  refine ht_bind (ld_och 1 0 1 (by decide) (by decide) (by decide +kernel) (off17_0_at c)) ?_; intro _ hv; subst hv
  exact ht_pure _ ⟨rfl, rfl⟩

theorem part30 {v19 v36 v52 : BitVec 32} :
    HT m K c (St m c (17, 17, 13, 12) 22) (k0_part30 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v36 v52 (k0_pay28 (rbV m c 1 0 0)) (ochV m c 1 0 1))
      (fun v => v = k0_pay30 (rbV m c 1 1 0) (ochV m c 1 1 1)) (St m c (17, 17, 14, 13) 22) := by
  rw [k0_part30_eq_skeleton]; unfold k0_part30_skel
  refine ht_bind (dl_sb 1 0 1 (by decide) (by decide) (by decide +kernel) rfl) ?_; intro _ _
  refine ht_bind (st_sb (.finB 0) 1 0 1 (by decide) (by decide) rfl rfl rfl rfl (pay_finB m c 1 0 0)) ?_; intro _ _
  refine ht_bind (wait_recv 1 1 3 (by decide) (by decide) (by decide) rfl rfl rfl (by decide +kernel)) ?_; intro _ _
  refine ht_bind (ld_rb 1 1 0 (by decide) (by decide) (by decide +kernel) rfl) ?_; intro _ hv; subst hv
  refine ht_bind (ld_och 1 1 1 (by decide) (by decide) (by decide +kernel) (off18_0_at c)) ?_; intro _ hv; subst hv
  exact ht_pure _ rfl

end Cert.KernelIdeal.AllReduce
-- ==== Proof.Parts3.lean ====
/-
# Parts 31 to 45

The triples of the program's parts 31 to 45: what each does to a device's state. A state is named by the number of steps that
each of the four lanes has made and the number of additions to other devices' cells.
-/
module

public import proofs.«01_k».proof.Proof.Start

@[expose] public section

set_option maxRecDepth 20000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ}
variable {K : Dev nD × Fin 97 → ℕ} {c : Dev nD}

theorem part31 {v32 v36 : BitVec 32} :
    HT m K c (St m c (17, 17, 14, 13) 22) (k0_part31 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v32 v36 (k0_pay30 (rbV m c 1 1 0) (ochV m c 1 1 1)))
      (fun _ => True) (St m c (18, 17, 14, 14) 23) := by
  rw [k0_part31_eq_skeleton]; unfold k0_part31_skel
  refine ht_bind (dl_sb 1 1 1 (by decide) (by decide) (by decide +kernel) rfl) ?_; intro _ _
  refine ht_bind (st_sb (.finB 0) 1 1 1 (by decide) (by decide) rfl rfl rfl rfl (pay_finB m c 1 1 0)) ?_; intro _ _
  refine ht_bind (send_B 0 0 2 (by decide) (by decide) (by decide) rfl rfl (dev23_at c) rfl rfl rfl rfl) ?_; intro _ _
  exact ht_pure _ trivial

theorem part32 {v32 v36 : BitVec 32} :
    HT m K c (St m c (18, 17, 14, 14) 23) (k0_part32 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v32 v36)
      (fun _ => True) (St m c (18, 18, 15, 14) 25) := by
  rw [k0_part32_eq_skeleton]; unfold k0_part32_skel
  refine ht_bind (send_B 0 1 2 (by decide) (by decide) (by decide) rfl rfl (dev24_at c) rfl rfl rfl rfl) ?_; intro _ _
  refine ht_bind (send_B 1 0 1 (by decide) (by decide) (by decide) rfl rfl (dev25_at c) rfl rfl rfl rfl) ?_; intro _ _
  exact ht_pure _ trivial

theorem part33 {v19 v32 v50 : BitVec 32} :
    HT m K c (St m c (18, 18, 15, 14) 25) (k0_part33 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v50)
      (fun _ => True) (St m c (20, 18, 15, 15) 26) := by
  rw [k0_part33_eq_skeleton]; unfold k0_part33_skel
  refine ht_bind (send_B 1 1 1 (by decide) (by decide) (by decide) rfl rfl (dev26_at c) rfl rfl rfl rfl) ?_; intro _ _
  refine ht_bind (wait_recv 0 0 5 (by decide) (by decide) (by decide) rfl rfl rfl (by decide +kernel)) ?_; intro _ _
  refine ht_bind (ld_rb 0 0 2 (by decide) (by decide) (by decide +kernel) rfl) ?_; intro _ hv; subst hv
  refine ht_bind (ld_och 0 0 3 (by decide) (by decide) (by decide +kernel) (off11_2_at c)) ?_; intro _ hv; subst hv
  refine ht_bind (dl_oF 0 0 (by decide) (by decide) (by decide +kernel) (off11_2_at c)) ?_; intro _ _
  refine ht_bind (st_oF 0 0 (by decide) (by decide) rfl (off11_2_at c) (pay_finB2 m c 0 0)) ?_; intro _ _
  exact ht_pure _ trivial

theorem part34 {v19 v36 v52 : BitVec 32} :
    HT m K c (St m c (20, 18, 15, 15) 26) (k0_part34 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v36 v52)
      (fun _ => True) (St m c (20, 20, 15, 15) 26) := by
  rw [k0_part34_eq_skeleton]; unfold k0_part34_skel
  refine ht_bind (wait_recv 0 1 5 (by decide) (by decide) (by decide) rfl rfl rfl (by decide +kernel)) ?_; intro _ _
  refine ht_bind (ld_rb 0 1 2 (by decide) (by decide) (by decide +kernel) rfl) ?_; intro _ hv; subst hv
  refine ht_bind (ld_och 0 1 3 (by decide) (by decide) (by decide +kernel) (off12_2_at c)) ?_; intro _ hv; subst hv
  refine ht_bind (dl_oF 0 1 (by decide) (by decide) (by decide +kernel) (off12_2_at c)) ?_; intro _ _
  refine ht_bind (st_oF 0 1 (by decide) (by decide) rfl (off12_2_at c) (pay_finB2 m c 0 1)) ?_; intro _ _
  exact ht_pure _ trivial

theorem part35 {v19 v32 v50 : BitVec 32} :
    HT m K c (St m c (20, 20, 15, 15) 26) (k0_part35 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v50)
      (fun _ => True) (St m c (20, 20, 17, 15) 26) := by
  rw [k0_part35_eq_skeleton]; unfold k0_part35_skel
  refine ht_bind (wait_recv 1 0 4 (by decide) (by decide) (by decide) rfl rfl rfl (by decide +kernel)) ?_; intro _ _
  refine ht_bind (ld_rb 1 0 1 (by decide) (by decide) (by decide +kernel) rfl) ?_; intro _ hv; subst hv
  refine ht_bind (ld_och 1 0 2 (by decide) (by decide) (by decide +kernel) (off17_1_at c)) ?_; intro _ hv; subst hv
  refine ht_bind (dl_sb 1 0 2 (by decide) (by decide) (by decide +kernel) rfl) ?_; intro _ _
  refine ht_bind (st_sb (.finB 1) 1 0 2 (by decide) (by decide) rfl rfl rfl rfl (pay_finB m c 1 0 1)) ?_; intro _ _
  exact ht_pure _ trivial

theorem part36 {v19 v36 v50 v52 : BitVec 32} :
    HT m K c (St m c (20, 20, 17, 15) 26) (k0_part36 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v36 v50 v52)
      (fun _ => True) (St m c (20, 20, 17, 17) 26) := by
  rw [k0_part36_eq_skeleton]; unfold k0_part36_skel
  refine ht_bind (wait_recv 1 1 4 (by decide) (by decide) (by decide) rfl rfl rfl (by decide +kernel)) ?_; intro _ _
  refine ht_bind (ld_rb 1 1 1 (by decide) (by decide) (by decide +kernel) rfl) ?_; intro _ hv; subst hv
  refine ht_bind (ld_och 1 1 2 (by decide) (by decide) (by decide +kernel) (off18_1_at c)) ?_; intro _ hv; subst hv
  refine ht_bind (dl_sb 1 1 2 (by decide) (by decide) (by decide +kernel) rfl) ?_; intro _ _
  refine ht_bind (st_sb (.finB 1) 1 1 2 (by decide) (by decide) rfl rfl rfl rfl (pay_finB m c 1 1 1)) ?_; intro _ _
  exact ht_pure _ trivial

theorem part37 {v19 v32 v36 v52 : BitVec 32} :
    HT m K c (St m c (20, 20, 17, 17) 26) (k0_part37 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v52)
      (fun _ => True) (St m c (21, 21, 17, 17) 28) := by
  rw [k0_part37_eq_skeleton]; unfold k0_part37_skel
  refine ht_bind (send_C 0 0 0 (by decide) (by decide) (by decide) (off19_0_at c) (off19_0_at c) (dev27_at c) rfl rfl rfl rfl) ?_; intro _ _
  refine ht_bind (send_C 0 1 0 (by decide) (by decide) (by decide) (off20_0_at c) (off20_0_at c) (dev28_at c) rfl rfl rfl rfl) ?_; intro _ _
  exact ht_pure _ trivial

theorem part38 {v32 v36 : BitVec 32} :
    HT m K c (St m c (21, 21, 17, 17) 28) (k0_part38 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v32 v36)
      (fun _ => True) (St m c (22, 21, 18, 18) 30) := by
  rw [k0_part38_eq_skeleton]; unfold k0_part38_skel
  refine ht_bind (send_B 1 0 2 (by decide) (by decide) (by decide) rfl rfl (dev29_at c) rfl rfl rfl rfl) ?_; intro _ _
  refine ht_bind (send_B 1 1 2 (by decide) (by decide) (by decide) rfl rfl (dev30_at c) rfl rfl rfl rfl) ?_; intro _ _
  refine ht_bind (wait_recv 0 0 6 (by decide) (by decide) (by decide) rfl rfl rfl (by decide +kernel)) ?_; intro _ _
  exact ht_pure _ trivial

theorem part39 {v19 v32 v36 v50 : BitVec 32} :
    HT m K c (St m c (22, 21, 18, 18) 30) (k0_part39 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50)
      (fun v => v.2 = (rbV m c 1 0 2)) (St m c (22, 22, 19, 18) 30) := by
  rw [k0_part39_eq_skeleton]; unfold k0_part39_skel
  refine ht_bind (wait_recv 0 1 6 (by decide) (by decide) (by decide) rfl rfl rfl (by decide +kernel)) ?_; intro _ _
  refine ht_bind (wait_recv 1 0 5 (by decide) (by decide) (by decide) rfl rfl rfl (by decide +kernel)) ?_; intro _ _
  refine ht_bind (ld_rb 1 0 2 (by decide) (by decide) (by decide +kernel) rfl) ?_; intro _ hv; subst hv
  exact ht_pure _ rfl

theorem part40 {v19 v36 v52 v898 : BitVec 32} :
    HT m K c (St m c (22, 22, 19, 18) 30) (k0_part40 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v36 v52 v898 (rbV m c 1 0 2))
      (fun v => v = k0_pay37 (rbV m c 1 1 2) (ochV m c 1 1 3)) (St m c (22, 22, 20, 19) 30) := by
  rw [k0_part40_eq_skeleton]; unfold k0_part40_skel
  refine ht_bind (ld_och 1 0 3 (by decide) (by decide) (by decide +kernel) (off17_2_at c)) ?_; intro _ hv; subst hv
  refine ht_bind (dl_oF 1 0 (by decide) (by decide) (by decide +kernel) (off17_2_at c)) ?_; intro _ _
  refine ht_bind (st_oF 1 0 (by decide) (by decide) rfl (off17_2_at c) (pay_finB2 m c 1 0)) ?_; intro _ _
  refine ht_bind (wait_recv 1 1 5 (by decide) (by decide) (by decide) rfl rfl rfl (by decide +kernel)) ?_; intro _ _
  refine ht_bind (ld_rb 1 1 2 (by decide) (by decide) (by decide +kernel) rfl) ?_; intro _ hv; subst hv
  refine ht_bind (ld_och 1 1 3 (by decide) (by decide) (by decide +kernel) (off18_2_at c)) ?_; intro _ hv; subst hv
  exact ht_pure _ rfl

theorem part41 {v19 v32 v36 v50 v52 : BitVec 32} :
    HT m K c (St m c (22, 22, 20, 19) 30) (k0_part41 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50 v52 (k0_pay37 (rbV m c 1 1 2) (ochV m c 1 1 3)))
      (fun _ => True) (St m c (23, 23, 20, 20) 32) := by
  rw [k0_part41_eq_skeleton]; unfold k0_part41_skel
  refine ht_bind (dl_oF 1 1 (by decide) (by decide) (by decide +kernel) (off18_2_at c)) ?_; intro _ _
  refine ht_bind (st_oF 1 1 (by decide) (by decide) rfl (off18_2_at c) (pay_finB2 m c 1 1)) ?_; intro _ _
  refine ht_bind (send_C 0 0 1 (by decide) (by decide) (by decide) (off19_1_at c) (off19_1_at c) (dev31_at c) rfl rfl rfl rfl) ?_; intro _ _
  refine ht_bind (send_C 0 1 1 (by decide) (by decide) (by decide) (off20_1_at c) (off20_1_at c) (dev32_at c) rfl rfl rfl rfl) ?_; intro _ _
  exact ht_pure _ trivial

theorem part42 {v19 v32 v36 v50 v52 : BitVec 32} :
    HT m K c (St m c (23, 23, 20, 20) 32) (k0_part42 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50 v52)
      (fun _ => True) (St m c (23, 23, 21, 21) 34) := by
  rw [k0_part42_eq_skeleton]; unfold k0_part42_skel
  refine ht_bind (send_C 1 0 0 (by decide) (by decide) (by decide) (off21_0_at c) (off21_0_at c) (dev33_at c) rfl rfl rfl rfl) ?_; intro _ _
  refine ht_bind (send_C 1 1 0 (by decide) (by decide) (by decide) (off22_0_at c) (off22_0_at c) (dev34_at c) rfl rfl rfl rfl) ?_; intro _ _
  exact ht_pure _ trivial

theorem part43 {v32 v36 : BitVec 32} :
    HT m K c (St m c (23, 23, 21, 21) 34) (k0_part43 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v32 v36)
      (fun _ => True) (St m c (24, 24, 22, 21) 34) := by
  rw [k0_part43_eq_skeleton]; unfold k0_part43_skel
  refine ht_bind (wait_recv 0 0 7 (by decide) (by decide) (by decide) rfl rfl rfl (by decide +kernel)) ?_; intro _ _
  refine ht_bind (wait_recv 0 1 7 (by decide) (by decide) (by decide) rfl rfl rfl (by decide +kernel)) ?_; intro _ _
  refine ht_bind (wait_recv 1 0 6 (by decide) (by decide) (by decide) rfl rfl rfl (by decide +kernel)) ?_; intro _ _
  exact ht_pure _ trivial

theorem part44 {v19 v32 v36 v50 v52 : BitVec 32} :
    HT m K c (St m c (24, 24, 22, 21) 34) (k0_part44 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50 v52)
      (fun _ => True) (St m c (25, 24, 22, 22) 35) := by
  rw [k0_part44_eq_skeleton]; unfold k0_part44_skel
  refine ht_bind (wait_recv 1 1 6 (by decide) (by decide) (by decide) rfl rfl rfl (by decide +kernel)) ?_; intro _ _
  refine ht_bind (send_C 0 0 2 (by decide) (by decide) (by decide) (off19_2_at c) (off19_2_at c) (dev35_at c) rfl rfl rfl rfl) ?_; intro _ _
  exact ht_pure _ trivial

theorem part45 {v19 v32 v36 v50 v52 : BitVec 32} :
    HT m K c (St m c (25, 24, 22, 22) 35) (k0_part45 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50 v52)
      (fun _ => True) (St m c (25, 25, 23, 22) 37) := by
  rw [k0_part45_eq_skeleton]; unfold k0_part45_skel
  refine ht_bind (send_C 0 1 2 (by decide) (by decide) (by decide) (off20_2_at c) (off20_2_at c) (dev36_at c) rfl rfl rfl rfl) ?_; intro _ _
  refine ht_bind (send_C 1 0 1 (by decide) (by decide) (by decide) (off21_1_at c) (off21_1_at c) (dev37_at c) rfl rfl rfl rfl) ?_; intro _ _
  exact ht_pure _ trivial

end Cert.KernelIdeal.AllReduce
-- ==== Proof.Parts4.lean ====
/-
# Parts 46 to 60

The triples of the program's parts 46 to 60: what each does to a device's state. A state is named by the number of steps that
each of the four lanes has made and the number of additions to other devices' cells.
-/
module

public import proofs.«01_k».proof.Proof.Start

@[expose] public section

set_option maxRecDepth 20000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ}
variable {K : Dev nD × Fin 97 → ℕ} {c : Dev nD}

theorem part46 {v32 v36 : BitVec 32} :
    HT m K c (St m c (25, 25, 23, 22) 37) (k0_part46 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v32 v36)
      (fun _ => True) (St m c (26, 26, 24, 23) 38) := by
  rw [k0_part46_eq_skeleton]; unfold k0_part46_skel
  refine ht_bind (send_C 1 1 1 (by decide) (by decide) (by decide) (off22_1_at c) (off22_1_at c) (dev38_at c) rfl rfl rfl rfl) ?_; intro _ _
  refine ht_bind (wait_recv 0 0 8 (by decide) (by decide) (by decide) rfl rfl rfl (by decide +kernel)) ?_; intro _ _
  refine ht_bind (wait_recv 0 1 8 (by decide) (by decide) (by decide) rfl rfl rfl (by decide +kernel)) ?_; intro _ _
  refine ht_bind (wait_recv 1 0 7 (by decide) (by decide) (by decide) rfl rfl rfl (by decide +kernel)) ?_; intro _ _
  exact ht_pure _ trivial

theorem part47 {v20 v24 v28 v36 c1_i32_1560 : BitVec 32} :
    HT m K c (St m c (26, 26, 24, 23) 38) (k0_part47 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28 v36 c1_i32_1560)
      (fun _ => True) (St m c (28, 26, 24, 24) 39) := by
  rw [k0_part47_eq_skeleton]; unfold k0_part47_skel
  refine ht_bind (wait_recv 1 1 7 (by decide) (by decide) (by decide) rfl rfl rfl (by decide +kernel)) ?_; intro _ _
  refine ht_ghost (st := 0) (d := 0) (by decide) (by decide) .join rfl (join_den c 0 0) ?_
  refine ht_bind (send_D 0 0 0 (by decide) (by decide) (by decide) (off23_0_at c) (off23_0_at c) (dev39_at c) rfl rfl rfl rfl) ?_; intro _ _
  exact ht_pure _ trivial

theorem part48 {v19 v32 v36 v50 v52 v1103 c0_i32_1592 : BitVec 32} :
    HT m K c (St m c (28, 26, 24, 24) 39) (k0_part48 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v19 v32 v36 v50 v52 v1103 c0_i32_1592)
      (fun _ => True) (St m c (28, 28, 25, 24) 41) := by
  rw [k0_part48_eq_skeleton]; unfold k0_part48_skel
  refine ht_ghost (st := 0) (d := 1) (by decide) (by decide) .join rfl (join_den c 0 1) ?_
  refine ht_bind (send_D 0 1 0 (by decide) (by decide) (by decide) (off24_0_at c) (off24_0_at c) (dev40_at c) rfl rfl rfl rfl) ?_; intro _ _
  refine ht_bind (send_C 1 0 2 (by decide) (by decide) (by decide) (off21_2_at c) (off21_2_at c) (dev41_at c) rfl rfl rfl rfl) ?_; intro _ _
  exact ht_pure _ trivial

theorem part49 {v24 v28 v32 : BitVec 32} :
    HT m K c (St m c (28, 28, 25, 24) 41) (k0_part49 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28 v32)
      (fun _ => True) (St m c (29, 29, 26, 25) 42) := by
  rw [k0_part49_eq_skeleton]; unfold k0_part49_skel
  refine ht_bind (send_C 1 1 2 (by decide) (by decide) (by decide) (off22_2_at c) (off22_2_at c) (dev42_at c) rfl rfl rfl rfl) ?_; intro _ _
  refine ht_bind (wait_recv 0 0 9 (by decide) (by decide) (by decide) rfl rfl rfl (by decide +kernel)) ?_; intro _ _
  refine ht_bind (wait_recv 0 1 9 (by decide) (by decide) (by decide) rfl rfl rfl (by decide +kernel)) ?_; intro _ _
  refine ht_bind (wait_recv 1 0 8 (by decide) (by decide) (by decide) rfl rfl rfl (by decide +kernel)) ?_; intro _ _
  exact ht_pure _ trivial

theorem part50 {v20 v24 v36 : BitVec 32} :
    HT m K c (St m c (29, 29, 26, 25) 42) (k0_part50 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v36)
      (fun _ => True) (St m c (30, 29, 26, 26) 43) := by
  rw [k0_part50_eq_skeleton]; unfold k0_part50_skel
  refine ht_bind (wait_recv 1 1 8 (by decide) (by decide) (by decide) rfl rfl rfl (by decide +kernel)) ?_; intro _ _
  refine ht_bind (send_D 0 0 1 (by decide) (by decide) (by decide) (off23_1_at c) (off23_1_at c) (dev43_at c) rfl rfl rfl rfl) ?_; intro _ _
  exact ht_pure _ trivial

theorem part51 {v20 v24 v28 : BitVec 32} :
    HT m K c (St m c (30, 29, 26, 26) 43) (k0_part51 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28)
      (fun _ => True) (St m c (30, 30, 28, 26) 45) := by
  rw [k0_part51_eq_skeleton]; unfold k0_part51_skel
  refine ht_bind (send_D 0 1 1 (by decide) (by decide) (by decide) (off24_1_at c) (off24_1_at c) (dev44_at c) rfl rfl rfl rfl) ?_; intro _ _
  refine ht_ghost (st := 1) (d := 0) (by decide) (by decide) .join rfl (join_den c 1 0) ?_
  refine ht_bind (send_D 1 0 0 (by decide) (by decide) (by decide) (off25_0_at c) (off25_0_at c) (dev45_at c) rfl rfl rfl rfl) ?_; intro _ _
  exact ht_pure _ trivial

theorem part52 {v24 v28 : BitVec 32} :
    HT m K c (St m c (30, 30, 28, 26) 45) (k0_part52 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28)
      (fun _ => True) (St m c (31, 31, 28, 28) 46) := by
  rw [k0_part52_eq_skeleton]; unfold k0_part52_skel
  refine ht_ghost (st := 1) (d := 1) (by decide) (by decide) .join rfl (join_den c 1 1) ?_
  refine ht_bind (send_D 1 1 0 (by decide) (by decide) (by decide) (off26_0_at c) (off26_0_at c) (dev46_at c) rfl rfl rfl rfl) ?_; intro _ _
  refine ht_bind (wait_recv 0 0 10 (by decide) (by decide) (by decide) rfl rfl rfl (by decide +kernel)) ?_; intro _ _
  refine ht_bind (wait_recv 0 1 10 (by decide) (by decide) (by decide) rfl rfl rfl (by decide +kernel)) ?_; intro _ _
  exact ht_pure _ trivial

theorem part53 {v20 v24 v28 : BitVec 32} :
    HT m K c (St m c (31, 31, 28, 28) 46) (k0_part53 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28)
      (fun _ => True) (St m c (32, 31, 29, 29) 47) := by
  rw [k0_part53_eq_skeleton]; unfold k0_part53_skel
  refine ht_bind (wait_recv 1 0 9 (by decide) (by decide) (by decide) rfl rfl rfl (by decide +kernel)) ?_; intro _ _
  refine ht_bind (wait_recv 1 1 9 (by decide) (by decide) (by decide) rfl rfl rfl (by decide +kernel)) ?_; intro _ _
  refine ht_bind (send_D 0 0 2 (by decide) (by decide) (by decide) (off23_2_at c) (off23_2_at c) (dev47_at c) rfl rfl rfl rfl) ?_; intro _ _
  exact ht_pure _ trivial

theorem part54 {v20 v24 v28 v1255 c4_i32_1784 : BitVec 32} :
    HT m K c (St m c (32, 31, 29, 29) 47) (k0_part54 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28 v1255 c4_i32_1784)
      (fun _ => True) (St m c (32, 32, 30, 29) 49) := by
  rw [k0_part54_eq_skeleton]; unfold k0_part54_skel
  refine ht_bind (send_D 0 1 2 (by decide) (by decide) (by decide) (off24_2_at c) (off24_2_at c) (dev48_at c) rfl rfl rfl rfl) ?_; intro _ _
  refine ht_bind (send_D 1 0 1 (by decide) (by decide) (by decide) (off25_1_at c) (off25_1_at c) (dev49_at c) rfl rfl rfl rfl) ?_; intro _ _
  exact ht_pure _ trivial

theorem part55 {v24 v28 v1282 c4_i32_1815 : BitVec 32} :
    HT m K c (St m c (32, 32, 30, 29) 49) (k0_part55 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v24 v28 v1282 c4_i32_1815)
      (fun _ => True) (St m c (33, 33, 30, 30) 50) := by
  rw [k0_part55_eq_skeleton]; unfold k0_part55_skel
  refine ht_bind (send_D 1 1 1 (by decide) (by decide) (by decide) (off26_1_at c) (off26_1_at c) (dev50_at c) rfl rfl rfl rfl) ?_; intro _ _
  refine ht_bind (wait_recv 0 0 11 (by decide) (by decide) (by decide) rfl rfl rfl (by decide +kernel)) ?_; intro _ _
  refine ht_bind (wait_recv 0 1 11 (by decide) (by decide) (by decide) rfl rfl rfl (by decide +kernel)) ?_; intro _ _
  exact ht_pure _ trivial

theorem part56 {v20 v24 v28 : BitVec 32} :
    HT m K c (St m c (33, 33, 30, 30) 50) (k0_part56 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28)
      (fun _ => True) (St m c (33, 33, 31, 31) 50) := by
  rw [k0_part56_eq_skeleton]; unfold k0_part56_skel
  refine ht_bind (wait_recv 1 0 10 (by decide) (by decide) (by decide) rfl rfl rfl (by decide +kernel)) ?_; intro _ _
  refine ht_bind (wait_recv 1 1 10 (by decide) (by decide) (by decide) rfl rfl rfl (by decide +kernel)) ?_; intro _ _
  exact ht_pure _ trivial

theorem part57 {v20 v24 v28 : BitVec 32} :
    HT m K c (St m c (33, 33, 31, 31) 50) (k0_part57 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c v20 v24 v28)
      (fun _ => True) (St m c (33, 33, 33, 32) 52) := by
  rw [k0_part57_eq_skeleton]; unfold k0_part57_skel
  refine ht_bind (send_D 1 0 2 (by decide) (by decide) (by decide) (off25_2_at c) (off25_2_at c) (dev51_at c) rfl rfl rfl rfl) ?_; intro _ _
  refine ht_bind (send_D 1 1 2 (by decide) (by decide) (by decide) (off26_2_at c) (off26_2_at c) (dev52_at c) rfl rfl rfl rfl) ?_; intro _ _
  refine ht_bind (wait_recv 1 0 11 (by decide) (by decide) (by decide) rfl rfl rfl (by decide +kernel)) ?_; intro _ _
  exact ht_pure _ trivial

theorem part58 :
    HT m K c (St m c (33, 33, 33, 32) 52) (k0_part58 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (34, 34, 33, 33) 52) := by
  rw [k0_part58_eq_skeleton]; unfold k0_part58_skel
  refine ht_bind (wait_recv 1 1 11 (by decide) (by decide) (by decide) rfl rfl rfl (by decide +kernel)) ?_; intro _ _
  refine ht_bind (wait_send 0 0 0 (by decide) (by decide) (by decide) rfl rfl rfl (by decide +kernel)) ?_; intro _ _
  refine ht_bind (wait_send 0 1 0 (by decide) (by decide) (by decide) rfl rfl rfl (by decide +kernel)) ?_; intro _ _
  exact ht_pure _ trivial

theorem part59 :
    HT m K c (St m c (34, 34, 33, 33) 52) (k0_part59 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (35, 35, 33, 33) 52) := by
  rw [k0_part59_eq_skeleton]; unfold k0_part59_skel
  refine ht_bind (wait_send 0 0 1 (by decide) (by decide) (by decide) rfl rfl rfl (by decide +kernel)) ?_; intro _ _
  refine ht_bind (wait_send 0 1 1 (by decide) (by decide) (by decide) rfl rfl rfl (by decide +kernel)) ?_; intro _ _
  exact ht_pure _ trivial

theorem part60 :
    HT m K c (St m c (35, 35, 33, 33) 52) (k0_part60 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (36, 35, 34, 34) 52) := by
  rw [k0_part60_eq_skeleton]; unfold k0_part60_skel
  refine ht_bind (wait_send 1 0 0 (by decide) (by decide) (by decide) rfl rfl rfl (by decide +kernel)) ?_; intro _ _
  refine ht_bind (wait_send 1 1 0 (by decide) (by decide) (by decide) rfl rfl rfl (by decide +kernel)) ?_; intro _ _
  refine ht_bind (wait_send 0 0 2 (by decide) (by decide) (by decide) rfl rfl rfl (by decide +kernel)) ?_; intro _ _
  exact ht_pure _ trivial

end Cert.KernelIdeal.AllReduce
-- ==== Proof.Parts5.lean ====
/-
# Parts 61 to 72

The triples of the program's parts 61 to 72: what each does to a device's state. A state is named by the number of steps that
each of the four lanes has made and the number of additions to other devices' cells.
-/
module

public import proofs.«01_k».proof.Proof.Start

@[expose] public section

set_option maxRecDepth 20000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ}
variable {K : Dev nD × Fin 97 → ℕ} {c : Dev nD}

theorem part61 :
    HT m K c (St m c (36, 35, 34, 34) 52) (k0_part61 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (36, 36, 35, 34) 52) := by
  rw [k0_part61_eq_skeleton]; unfold k0_part61_skel
  refine ht_bind (wait_send 0 1 2 (by decide) (by decide) (by decide) rfl rfl rfl (by decide +kernel)) ?_; intro _ _
  refine ht_bind (wait_send 1 0 1 (by decide) (by decide) (by decide) rfl rfl rfl (by decide +kernel)) ?_; intro _ _
  exact ht_pure _ trivial

theorem part62 :
    HT m K c (St m c (36, 36, 35, 34) 52) (k0_part62 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (37, 37, 35, 35) 52) := by
  rw [k0_part62_eq_skeleton]; unfold k0_part62_skel
  refine ht_bind (wait_send 1 1 1 (by decide) (by decide) (by decide) rfl rfl rfl (by decide +kernel)) ?_; intro _ _
  refine ht_bind (wait_send 0 0 3 (by decide) (by decide) (by decide) rfl rfl rfl (by decide +kernel)) ?_; intro _ _
  refine ht_bind (wait_send 0 1 3 (by decide) (by decide) (by decide) rfl rfl rfl (by decide +kernel)) ?_; intro _ _
  exact ht_pure _ trivial

theorem part63 :
    HT m K c (St m c (37, 37, 35, 35) 52) (k0_part63 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (37, 37, 36, 36) 52) := by
  rw [k0_part63_eq_skeleton]; unfold k0_part63_skel
  refine ht_bind (wait_send 1 0 2 (by decide) (by decide) (by decide) rfl rfl rfl (by decide +kernel)) ?_; intro _ _
  refine ht_bind (wait_send 1 1 2 (by decide) (by decide) (by decide) rfl rfl rfl (by decide +kernel)) ?_; intro _ _
  exact ht_pure _ trivial

theorem part64 :
    HT m K c (St m c (37, 37, 36, 36) 52) (k0_part64 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (38, 38, 37, 36) 52) := by
  rw [k0_part64_eq_skeleton]; unfold k0_part64_skel
  refine ht_bind (wait_send 0 0 4 (by decide) (by decide) (by decide) rfl rfl rfl (by decide +kernel)) ?_; intro _ _
  refine ht_bind (wait_send 0 1 4 (by decide) (by decide) (by decide) rfl rfl rfl (by decide +kernel)) ?_; intro _ _
  refine ht_bind (wait_send 1 0 3 (by decide) (by decide) (by decide) rfl rfl rfl (by decide +kernel)) ?_; intro _ _
  exact ht_pure _ trivial

theorem part65 :
    HT m K c (St m c (38, 38, 37, 36) 52) (k0_part65 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (39, 38, 37, 37) 52) := by
  rw [k0_part65_eq_skeleton]; unfold k0_part65_skel
  refine ht_bind (wait_send 1 1 3 (by decide) (by decide) (by decide) rfl rfl rfl (by decide +kernel)) ?_; intro _ _
  refine ht_bind (wait_send 0 0 5 (by decide) (by decide) (by decide) rfl rfl rfl (by decide +kernel)) ?_; intro _ _
  exact ht_pure _ trivial

theorem part66 :
    HT m K c (St m c (39, 38, 37, 37) 52) (k0_part66 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (39, 39, 38, 38) 52) := by
  rw [k0_part66_eq_skeleton]; unfold k0_part66_skel
  refine ht_bind (wait_send 0 1 5 (by decide) (by decide) (by decide) rfl rfl rfl (by decide +kernel)) ?_; intro _ _
  refine ht_bind (wait_send 1 0 4 (by decide) (by decide) (by decide) rfl rfl rfl (by decide +kernel)) ?_; intro _ _
  refine ht_bind (wait_send 1 1 4 (by decide) (by decide) (by decide) rfl rfl rfl (by decide +kernel)) ?_; intro _ _
  exact ht_pure _ trivial

theorem part67 :
    HT m K c (St m c (39, 39, 38, 38) 52) (k0_part67 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (40, 40, 39, 38) 52) := by
  rw [k0_part67_eq_skeleton]; unfold k0_part67_skel
  refine ht_bind (wait_send 0 0 6 (by decide) (by decide) (by decide) rfl rfl rfl (by decide +kernel)) ?_; intro _ _
  refine ht_bind (wait_send 0 1 6 (by decide) (by decide) (by decide) rfl rfl rfl (by decide +kernel)) ?_; intro _ _
  refine ht_bind (wait_send 1 0 5 (by decide) (by decide) (by decide) rfl rfl rfl (by decide +kernel)) ?_; intro _ _
  exact ht_pure _ trivial

theorem part68 :
    HT m K c (St m c (40, 40, 39, 38) 52) (k0_part68 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (41, 41, 40, 39) 52) := by
  rw [k0_part68_eq_skeleton]; unfold k0_part68_skel
  refine ht_bind (wait_send 1 1 5 (by decide) (by decide) (by decide) rfl rfl rfl (by decide +kernel)) ?_; intro _ _
  refine ht_bind (wait_send 0 0 7 (by decide) (by decide) (by decide) rfl rfl rfl (by decide +kernel)) ?_; intro _ _
  refine ht_bind (wait_send 0 1 7 (by decide) (by decide) (by decide) rfl rfl rfl (by decide +kernel)) ?_; intro _ _
  refine ht_bind (wait_send 1 0 6 (by decide) (by decide) (by decide) rfl rfl rfl (by decide +kernel)) ?_; intro _ _
  exact ht_pure _ trivial

theorem part69 :
    HT m K c (St m c (41, 41, 40, 39) 52) (k0_part69 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (42, 42, 41, 40) 52) := by
  rw [k0_part69_eq_skeleton]; unfold k0_part69_skel
  refine ht_bind (wait_send 1 1 6 (by decide) (by decide) (by decide) rfl rfl rfl (by decide +kernel)) ?_; intro _ _
  refine ht_bind (wait_send 0 0 8 (by decide) (by decide) (by decide) rfl rfl rfl (by decide +kernel)) ?_; intro _ _
  refine ht_bind (wait_send 0 1 8 (by decide) (by decide) (by decide) rfl rfl rfl (by decide +kernel)) ?_; intro _ _
  refine ht_bind (wait_send 1 0 7 (by decide) (by decide) (by decide) rfl rfl rfl (by decide +kernel)) ?_; intro _ _
  exact ht_pure _ trivial

theorem part70 :
    HT m K c (St m c (42, 42, 41, 40) 52) (k0_part70 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (43, 43, 42, 42) 52) := by
  rw [k0_part70_eq_skeleton]; unfold k0_part70_skel
  refine ht_bind (wait_send 1 1 7 (by decide) (by decide) (by decide) rfl rfl rfl (by decide +kernel)) ?_; intro _ _
  refine ht_bind (wait_send 0 0 9 (by decide) (by decide) (by decide) rfl rfl rfl (by decide +kernel)) ?_; intro _ _
  refine ht_bind (wait_send 0 1 9 (by decide) (by decide) (by decide) rfl rfl rfl (by decide +kernel)) ?_; intro _ _
  refine ht_bind (wait_send 1 0 8 (by decide) (by decide) (by decide) rfl rfl rfl (by decide +kernel)) ?_; intro _ _
  refine ht_bind (wait_send 1 1 8 (by decide) (by decide) (by decide) rfl rfl rfl (by decide +kernel)) ?_; intro _ _
  exact ht_pure _ trivial

theorem part71 :
    HT m K c (St m c (43, 43, 42, 42) 52) (k0_part71 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (44, 44, 43, 43) 52) := by
  rw [k0_part71_eq_skeleton]; unfold k0_part71_skel
  refine ht_bind (wait_send 0 0 10 (by decide) (by decide) (by decide) rfl rfl rfl (by decide +kernel)) ?_; intro _ _
  refine ht_bind (wait_send 0 1 10 (by decide) (by decide) (by decide) rfl rfl rfl (by decide +kernel)) ?_; intro _ _
  refine ht_bind (wait_send 1 0 9 (by decide) (by decide) (by decide) rfl rfl rfl (by decide +kernel)) ?_; intro _ _
  refine ht_bind (wait_send 1 1 9 (by decide) (by decide) (by decide) rfl rfl rfl (by decide +kernel)) ?_; intro _ _
  exact ht_pure _ trivial

theorem part72 :
    HT m K c (St m c (44, 44, 43, 43) 52) (k0_part72 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11 c)
      (fun _ => True) (St m c (45, 45, 44, 44) 52) := by
  rw [k0_part72_eq_skeleton]; unfold k0_part72_skel
  refine ht_bind (wait_send 0 0 11 (by decide) (by decide) (by decide) rfl rfl rfl (by decide +kernel)) ?_; intro _ _
  refine ht_bind (wait_send 0 1 11 (by decide) (by decide) (by decide) rfl rfl rfl (by decide +kernel)) ?_; intro _ _
  refine ht_bind (wait_send 1 0 10 (by decide) (by decide) (by decide) rfl rfl rfl (by decide +kernel)) ?_; intro _ _
  refine ht_bind (wait_send 1 1 10 (by decide) (by decide) (by decide) rfl rfl rfl (by decide +kernel)) ?_; intro _ _
  exact ht_pure _ trivial

end Cert.KernelIdeal.AllReduce
-- ==== Proof.Whole.lean ====
/-
# The program of a device

The parts in sequence.
-/
module

public import proofs.«01_k».proof.Proof.Parts1
public import proofs.«01_k».proof.Proof.Parts2
public import proofs.«01_k».proof.Proof.Parts3
public import proofs.«01_k».proof.Proof.Parts4
public import proofs.«01_k».proof.Proof.Parts5

@[expose] public section

set_option maxRecDepth 20000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {m : (ℓ : Loc nD τ sig) → Buf (Elt F) ℓ}
variable {K : Dev nD × Fin 97 → ℕ} {c : Dev nD}

/-- Parts 1 to 60 in sequence. -/
theorem part73 :
    HT m K c (St0 m c 0) (k0_part73 (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun v => v = c) (St m c (36, 35, 34, 34) 52) := by
  rw [k0_part73_eq_skeleton]; unfold k0_part73_skel
  refine ht_bind part1 ?_; rintro ⟨d0, v19, v20, v24, v28, v32, v36⟩ hv; obtain rfl : d0 = c := hv
  refine ht_bind part2 ?_; rintro ⟨v50, v52⟩ -
  refine ht_bind part3 ?_; rintro c1_i32_81 -
  refine ht_bind part4 ?_; rintro v102 -
  refine ht_bind part5 ?_; rintro ⟨v124, v125⟩ hv; obtain rfl : v125 = _ := hv
  refine ht_bind part6 ?_; rintro ⟨v144, c0_i32_188⟩ -
  refine ht_bind part7 ?_; intro _ _
  refine ht_bind part8 ?_; intro _ _
  refine ht_bind part9 ?_; intro _ _
  refine ht_bind part10 ?_; intro _ _
  refine ht_bind part11 ?_; intro _ _
  refine ht_bind part12 ?_; intro _ _
  refine ht_bind part13 ?_; rintro v300 -
  refine ht_bind part14 ?_; intro _ _
  refine ht_bind part15 ?_; intro _ _
  refine ht_bind part16 ?_; intro _ _
  refine ht_bind part17 ?_; intro _ _
  refine ht_bind part18 ?_; rintro v420 hv; obtain rfl : v420 = _ := hv
  refine ht_bind part19 ?_; intro _ _
  refine ht_bind part20 ?_; intro _ _
  refine ht_bind part21 ?_; rintro v486 hv; obtain rfl : v486 = _ := hv
  refine ht_bind part22 ?_; intro _ _
  refine ht_bind part23 ?_; intro _ _
  refine ht_bind part24 ?_; intro _ _
  refine ht_bind part25 ?_; rintro v576 hv; obtain rfl : v576 = _ := hv
  refine ht_bind part26 ?_; rintro c1_i32_887 -
  refine ht_bind part27 ?_; rintro ⟨v621, v622⟩ hv; obtain rfl : v622 = _ := hv
  refine ht_bind part28 ?_; rintro v645 hv; obtain rfl : v645 = _ := hv
  refine ht_bind part29 ?_; rintro ⟨v668, v670⟩ ⟨hv, hw⟩; obtain rfl : v668 = _ := hv; obtain rfl : v670 = _ := hw
  refine ht_bind part30 ?_; rintro v694 hv; obtain rfl : v694 = _ := hv
  refine ht_bind part31 ?_; intro _ _
  refine ht_bind part32 ?_; intro _ _
  refine ht_bind part33 ?_; intro _ _
  refine ht_bind part34 ?_; intro _ _
  refine ht_bind part35 ?_; intro _ _
  refine ht_bind part36 ?_; intro _ _
  refine ht_bind part37 ?_; intro _ _
  refine ht_bind part38 ?_; intro _ _
  refine ht_bind part39 ?_; rintro ⟨v898, v899⟩ hv; obtain rfl : v899 = _ := hv
  refine ht_bind part40 ?_; rintro v925 hv; obtain rfl : v925 = _ := hv
  refine ht_bind part41 ?_; intro _ _
  refine ht_bind part42 ?_; intro _ _
  refine ht_bind part43 ?_; intro _ _
  refine ht_bind part44 ?_; intro _ _
  refine ht_bind part45 ?_; intro _ _
  refine ht_bind part46 ?_; rintro c1_i32_1560 -
  refine ht_bind part47 ?_; rintro ⟨v1103, c0_i32_1592⟩ -
  refine ht_bind part48 ?_; intro _ _
  refine ht_bind part49 ?_; intro _ _
  refine ht_bind part50 ?_; intro _ _
  refine ht_bind part51 ?_; intro _ _
  refine ht_bind part52 ?_; intro _ _
  refine ht_bind part53 ?_; rintro ⟨v1255, c4_i32_1784⟩ -
  refine ht_bind part54 ?_; rintro ⟨v1282, c4_i32_1815⟩ -
  refine ht_bind part55 ?_; intro _ _
  refine ht_bind part56 ?_; intro _ _
  refine ht_bind part57 ?_; intro _ _
  refine ht_bind part58 ?_; intro _ _
  refine ht_bind part59 ?_; intro _ _
  refine ht_bind part60 ?_; intro _ _
  exact ht_pure _ rfl

/-- The whole program of a device: from the state before the handshake to the state where everything is done. -/
theorem body_ht :
    HT m K c (St0 m c 0) (cc0_body (F := F) xM (Memref.isWhole_whole _) oM (Memref.isWhole_whole _) saM (Memref.isWhole_whole _) raM (Memref.isWhole_whole _) sbM (Memref.isWhole_whole _) rbM (Memref.isWhole_whole _) cc0_scratch4 cc0_scratch5 cc0_scratch6 cc0_scratch7 cc0_scratch8 cc0_scratch9 cc0_scratch10 cc0_scratch11)
      (fun _ => True) (St m c (45, 45, 45, 45) 52) := by
  rw [cc0_body_eq_skeleton]; unfold cc0_body_skel
  refine ht_bind part73 ?_; rintro d0 hv; obtain rfl : d0 = c := hv
  refine ht_bind part61 ?_; intro _ _
  refine ht_bind part62 ?_; intro _ _
  refine ht_bind part63 ?_; intro _ _
  refine ht_bind part64 ?_; intro _ _
  refine ht_bind part65 ?_; intro _ _
  refine ht_bind part66 ?_; intro _ _
  refine ht_bind part67 ?_; intro _ _
  refine ht_bind part68 ?_; intro _ _
  refine ht_bind part69 ?_; intro _ _
  refine ht_bind part70 ?_; intro _ _
  refine ht_bind part71 ?_; intro _ _
  refine ht_bind part72 ?_; intro _ _
  refine ht_bind (wait_send 1 0 11 (by decide) (by decide) (by decide) rfl rfl rfl (by decide +kernel)) ?_; intro _ _
  refine ht_bind (wait_send 1 1 11 (by decide) (by decide) (by decide) rfl rfl rfl (by decide +kernel)) ?_; intro _ _
  exact ht_pure _ trivial

end Cert.KernelIdeal.AllReduce
-- ==== Proof.Ready.lean ====
/-
# A device at the start of its program, and the body of the call

What the launch leaves a device with, put together as the state before the first signal; the data of the call; and the
body's obligation.
-/
module

public import proofs.«01_k».proof.Proof.Deal
public import proofs.«01_k».proof.Proof.Whole

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ### What a device starts from -/

/-- A device's positions at its cells, and the tokens of the duties that it pays. -/
def linear (c : Dev nD) : sProp 𝕄 :=
  iprop((bigSep Finset.univ fun k : Fin 97 => atPos ER (kcell (c, k)) 0 ∅ 0) ∗ payToks c)

/-- What a device starts from besides its buffers. -/
def start (c : Dev nD) : sProp 𝕄 := iprop((∃ K, env m K) ∗ linear c ∗ credits c)

/-- The lanes' own things at the start. -/
theorem own0_eq (c : Dev nD) (st d : ℕ) : denL m c st d own0
    = iprop(((denML m c st d ownPl ∗ sepL (fun h => iprop(dutyTok ER (sCell c st d h) 0 0 ∗ dutyTok ER (rCell (tgt d h c) st d h) 0 0)) hops)
        ∗ sepL (fun h => atPos ER (sCell c st d h) 0 ∅ 0) hops)
      ∗ sepL (fun h => iprop(atPos ER (rCell c st d h) 0 ∅ 0 ∗ cred (tallyAt (rCell c st d h) () (amt h)))) hops) := by
  show sepL (denA m c st d) (((ownPl.map .m ++ hops.map .tk) ++ hops.map .sp) ++ hops.map .rp) = _
  rw [sepL_append, sepL_append, sepL_append, sepL_map, sepL_map, sepL_map, sepL_map]
  rfl

/-- A device's state before its first signal. -/
theorem ready (c : Dev nD) :
    iprop((linear c ∗ credits c) ∗ buffers c ∗ xPts m c ∗ owesE c (owed c 0)) ⊢ St0 m c 0 := by
  have e1 : (linear c : sProp 𝕄) = iprop((atPos ER (barCell c) 0 ∅ 0 ∗ lanes fun st d =>
      iprop(sepL (fun h => atPos ER (sCell c st d h) 0 ∅ 0) hops ∗ sepL (fun h => atPos ER (rCell c st d h) 0 ∅ 0) hops)) ∗ payToks c) := by
    unfold linear
    rw [show (bigSep Finset.univ fun k : Fin 97 => (atPos ER (kcell (c, k)) 0 ∅ 0 : sProp 𝕄)) = _ from
      cells_lanes fun sm => atPos ER ((c : Thread nD τ), sm) 0 ∅ 0]
    rfl
  have e2 : iprop((lanes fun st d => denML m c st d ownPl)
      ∗ (lanes fun st d => iprop(sepL (fun h => atPos ER (sCell c st d h) 0 ∅ 0) hops ∗ sepL (fun h => atPos ER (rCell c st d h) 0 ∅ 0) hops))
      ∗ (lanes fun st d => iprop(sepL (fun h => dutyTok ER (sCell c st d h) 0 0) hops ∗ sepL (fun h => dutyTok ER (rCell (tgt d h c) st d h) 0 0) hops))
      ∗ lanes fun st d => sepL (fun h => cred (tallyAt (rCell c st d h) () (amt h))) hops) ⊢ lanes fun st d => denL m c st d own0 := by
    rw [lanes_sep, lanes_sep, lanes_sep]
    refine lanes_mono fun st d _ _ => ?_
    rw [own0_eq, ← sepL_sep, ← sepL_sep]
    iintro ⟨HM, ⟨HS, HR⟩, ⟨TS, TR⟩, HC⟩
    isplitr [HR HC]
    · isplitr [HS]
      · isplitl [HM]; · iexact HM
        isplitl [TS] <;> iassumption
      · iexact HS
    · isplitl [HR] <;> iassumption
  have e3 : (lanes fun st d => iprop(denML m c st d ownPl ∗ denML m (backP d c) st d planePl ∗ denML m (backZ d c) st d crossPl))
      = iprop((lanes fun st d => denML m c st d ownPl) ∗ (lanes fun st d => denML m (backP d c) st d planePl) ∗ lanes fun st d => denML m (backZ d c) st d crossPl) := by
    rw [lanes_sep, lanes_sep]
  have hb := (buffers_split m c).trans (Entails.of_eq e3)
  have hp := pays_intro m c
  rw [e1]
  unfold payToks credits St0 rest0
  show _ ⊢ iprop(((dutyTok ER (barCell (bdst c 0)) 0 (bduty 0) ∗ barPay m (bdst c 0) (bduty 0))
      ∗ (dutyTok ER (barCell (bdst c 1)) 0 (bduty 1) ∗ barPay m (bdst c 1) (bduty 1))
      ∗ (dutyTok ER (barCell (bdst c 2)) 0 (bduty 2) ∗ barPay m (bdst c 2) (bduty 2))
      ∗ (dutyTok ER (barCell (bdst c 3)) 0 (bduty 3) ∗ barPay m (bdst c 3) (bduty 3)) ∗ emp) ∗ owesE c (owed c 0)
      ∗ (atPos ER (barCell c) 0 ∅ 0 ∗ cred (tallyAt (barCell c) () 4)) ∗ (lanes fun st d => denL m c st d own0) ∗ xPts m c)
  iintro ⟨⟨⟨⟨Hat, HL⟩, ⟨T0, T1, T2, T3⟩, TL⟩, Hc, CL⟩, HB, Hx, Ho⟩
  ihave HB' := hb $$ HB
  icases HB' with ⟨Hown, Hpl, Hcr⟩
  ihave HP := hp $$ [Hpl Hcr]
  · isplitl [Hpl] <;> iassumption
  icases HP with ⟨P0, P1, P2, P3⟩
  isplitl [T0 T1 T2 T3 P0 P1 P2 P3]
  · isplitl [T0 P0]; · isplitl [T0] <;> iassumption
    isplitl [T1 P1]; · isplitl [T1] <;> iassumption
    isplitl [T2 P2]; · isplitl [T2] <;> iassumption
    isplitl; · isplitl [T3] <;> iassumption
    iempintro
  isplitl [Ho]; · iexact Ho
  isplitl [Hat Hc]; · isplitl [Hat] <;> iassumption
  isplitr [Hx]
  · iapply e2
    isplitl [Hown]; · iexact Hown
    isplitl [HL]; · iexact HL
    isplitl [TL] <;> iassumption
  · iexact Hx

/-! ### The call -/

/-- A device's scratch buffers at unknown contents. -/
def scratch (c : Dev nD) : sProp 𝕄 :=
  iprop((∃ f, saPt c Finset.univ f) ∗ (∃ f, raPt c Finset.univ f) ∗ (∃ f, sbPt c Finset.univ f) ∗ ∃ f, rbPt c Finset.univ f)

/-- Before the call's one point. -/
def Φ₀ (c : Dev nD) : sProp 𝕄 := iprop(start m c ∗ scratch c)
/-- After it. -/
def Φ₁ (c : Dev nD) : sProp 𝕄 := iprop(scratch c ∗ (lanes fun st d => zeros c st d) ∗ semVal (barCell c) 0)

/-- The launch state. -/
abbrev s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The data of the call: the argument's block stays, the result is the sum; everything is owed before, nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => resC m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- Buffer `b` of device `c` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (resC m))

/-- What the call gives the body. -/
theorem pre_ready (c : Dev nD) : bodyPre m ρ c ⊢ iprop(∃ K, env m K ∗ St0 m c 0) := by
  have hr := ready m c
  unfold bodyPre Φ₀ start scratch
  iintro ⟨⟨⟨⟨%K, HE⟩, HL⟩, HA, HB, HC, HD⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed c 0 from rfl]
  iexists K
  isplitl [HE]; · iexact HE
  iapply hr
  isplitl [HL]; · iexact HL
  isplitl [HA HB HC HD Hout]
  · unfold buffers
    isplitl [HA]; · iexact HA
    isplitl [HB]; · iexact HB
    isplitl [HC]; · iexact HC
    isplitl [HD]; · iexact HD
    unfold oPt
    iexists g1; iexact Hout
  isplitl [Hx]
  · unfold xPts; iexact Hx
  · unfold owesE; iexists W; iexact HO

/-- What the body leaves. -/
theorem post_done (c : Dev nD) : St m c (45, 45, 45, 45) 52 ⊢ bodyPost m ρ c := by
  have he := lanes_end m c
  have e : St m c (45, 45, 45, 45) 52 ⊢ iprop((lanes fun st d => denL m c st d (laneAtoms 45)) ∗ (xPts m c ∗ semVal (barCell c) 0) ∗ owesE c (owed c 52)) := by
    show iprop(denL m c 0 0 (laneAtoms 45) ∗ denL m c 0 1 (laneAtoms 45) ∗ denL m c 1 0 (laneAtoms 45) ∗ denL m c 1 1 (laneAtoms 45)
        ∗ (xPts m c ∗ semVal (barCell c) 0) ∗ owesE c (owed c 52))
      ⊢ iprop((denL m c 0 0 (laneAtoms 45) ∗ denL m c 0 1 (laneAtoms 45) ∗ denL m c 1 0 (laneAtoms 45) ∗ denL m c 1 1 (laneAtoms 45))
        ∗ (xPts m c ∗ semVal (barCell c) 0) ∗ owesE c (owed c 52))
    iintro ⟨H0, H1, H2, H3, HX⟩
    isplitr [HX]
    · isplitl [H0]; · iexact H0
      isplitl [H1]; · iexact H1
      isplitl [H2] <;> iassumption
    · iexact HX
  refine e.trans ?_
  unfold bodyPost Φ₁ scratch Dat.owesAt Pipeline.owesWithin owesE
  rw [show (dats m ρ 0 c).owed t₀.succ = 0 from rfl, owed_end]
  iintro ⟨HL, ⟨Hx, Hz⟩, %W, Ho⟩
  ihave HE := he $$ HL
  icases HE with ⟨HA, HB, HC, HD, HO, HZ⟩
  isplitl [HA HB HC HD HZ Hz]
  · isplitl [HA HB HC HD]
    · isplitl [HA]; · iexists _; iexact HA
      isplitl [HB]; · iexists _; iexact HB
      isplitl [HC]; · iexists _; iexact HC
      iexists _; iexact HD
    isplitl [HZ] <;> iassumption
  isplitl [Ho]
  · iexists W
    isplitr; · ipureintro; exact fun _ _ => Or.inl trivial
    iexact Ho
  isplitl [Hx]
  · iexists _; isplitr; · (ipureintro; rfl)
    unfold xPts; iexact Hx
  · iexists _; isplitr; · (ipureintro; rfl)
    unfold oPt; iexact HO

set_option maxRecDepth 40000 in
/-- The body of the call, from what it is given to what it leaves. -/
theorem body_obligation (c : Dev nD) : BodyObligation (dats (F := F) m ρ 0 c) (defs₀ (F := F)) 𝒱₀ () Set.univ := fun t => by
  have hb := fun K => body_ht (m := m) (K := K) (c := c) (fun _ => bodyPost m ρ c)
  have hpre := pre_ready m ρ c
  have hpost := post_done m ρ c
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) oM (Memref.isWhole_whole _) saM (Memref.isWhole_whole _) raM (Memref.isWhole_whole _)
      sbM (Memref.isWhole_whole _) rbM (Memref.isWhole_whole _) cc0_scratch4 cc0_scratch5 cc0_scratch6 cc0_scratch7 cc0_scratch8 cc0_scratch9
      cc0_scratch10 cc0_scratch11) (fun _ => bodyPost m ρ c)
  refine hpre.trans ?_
  iintro ⟨%K, #HE, HS⟩
  iapply (hb K)
  isplitr; · iexact HE
  isplitl [HS]; · iexact HS
  iintro %v - HP
  iapply hpost; iexact HP

end Cert.KernelIdeal.AllReduce
-- ==== Proof.Run.lean ====
/-
# The launch, and the run of the whole program

The ghost state of the launch is dealt to the devices, the semaphores' counters go into the cells' invariants, and the
run follows: it ends, the argument is unchanged, the result array holds the sum, and every counter is back at zero.
-/
module

public import proofs.«01_k».proof.Proof.Ready
public import Idealize.ShloMosaic.Lib.Pipeline.CollectiveSegs

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ### The semaphores -/

/-- The program's own semaphores: the transfers' ones. -/
def osem (k : Fin 96) : SemLoc sig := csem k.castSucc

theorem ownSemFacts : Pipeline.OwnSemFacts cfg0.spec osem := by decide +kernel

theorem share_eq (c : Dev nD) (w : Fin cfg0.W) : (dats m ρ 0 c).share w = fullShare := by unfold Dat.share; split <;> rfl

/-- The lanes' cells' numbers. -/
def allNos : List (Fin 97) := laneNos 0 0 ++ (laneNos 0 1 ++ (laneNos 1 0 ++ laneNos 1 1))
def ownNo (k : Fin 97) : Fin 96 := ⟨k.val % 96, Nat.mod_lt _ (by decide)⟩

omit [FloatOps F] in
theorem ownSems0_eq (c : Dev nD) : (Pipeline.ownSems0 (Ix := Unit) (Name := ℕ) (U := UU) (Lvl := ℕ) (Val := Elt F) (τ := τ) osem c : sProp 𝕄)
    = lanes fun st d => zeros c st d := by
  rw [Pipeline.ownSems0_eq_of_list c osem (allNos.map ownNo) (by decide +kernel) (by decide +kernel), sepL_eq, sepL_map]
  refine Eq.trans (sepL_congr fun k hk => ?_) (sepL_allNos fun sm => semVal ((c : Thread nD τ), sm) 0)
  exact congrArg (fun sm => (semVal ((c : Thread nD τ), sm) 0 : sProp 𝕄)) ((by decide +kernel : ∀ k ∈ allNos, osem (ownNo k) = csem k) k hk)

omit [FloatOps F] in
/-- The barrier semaphore is the one that outlives the call. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 97 => semVal (kcell (c, k)) 0 : sProp 𝕄) := by
  rw [ownSems0_eq, unscopedSems0_eq, show (bigSep Finset.univ fun k : Fin 97 => (semVal (kcell (c, k)) 0 : sProp 𝕄)) = _ from
    cells_lanes fun sm => semVal ((c : Thread nD τ), sm) 0]
  show iprop((lanes fun st d => zeros c st d) ∗ semVal (barCell c) 0) ⊢ iprop(semVal (barCell c) 0 ∗ lanes fun st d => zeros c st d)
  iintro ⟨H, HB⟩
  isplitl [HB] <;> iassumption

/-! ### The ghost state -/

theorem kcell_injective : Function.Injective (kcell : Dev nD × Fin 97 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def ringCells : Finset (GSem nD τ sig) := Finset.univ.map ⟨kcell, kcell_injective⟩

/-- A device's cells' duty tokens: the first duty of each cell, and the barrier cell's three others. -/
def tokOf (cj : Dev nD × (Fin 97 ⊕ Fin 3)) : GSem nD τ sig × ℕ × Fin 4 := match cj.2 with
  | .inl k => (kcell (cj.1, k), 0, 0)
  | .inr i => (barCell cj.1, 0, i.succ)
theorem tokOf_injective : Function.Injective (tokOf : Dev nD × (Fin 97 ⊕ Fin 3) → GSem nD τ sig × ℕ × Fin 4) := by
  rintro ⟨c, j⟩ ⟨c', j'⟩ h
  rcases j with k | i <;> rcases j' with k' | i'
  · have h1 : kcell (c, k) = kcell (c', k') := congrArg Prod.fst h
    have h2 := kcell_injective h1
    rw [Prod.mk.injEq] at h2
    rw [h2.1, h2.2]
  · have h1 : (0 : Fin 4) = i'.succ := congrArg (fun x : GSem nD τ sig × ℕ × Fin 4 => x.2.2) h
    exact absurd h1.symm (Fin.succ_ne_zero i')
  · have h1 : i.succ = (0 : Fin 4) := congrArg (fun x : GSem nD τ sig × ℕ × Fin 4 => x.2.2) h
    exact absurd h1 (Fin.succ_ne_zero i)
  · have h1 : c = c' := congrArg (fun x : GSem nD τ sig × ℕ × Fin 4 => x.1.1.1) h
    have h2 : i.succ = i'.succ := congrArg (fun x : GSem nD τ sig × ℕ × Fin 4 => x.2.2) h
    rw [h1, Fin.succ_injective _ h2]
def ringToks : Finset (GSem nD τ sig × ℕ × Fin 4) := Finset.univ.map ⟨tokOf, tokOf_injective⟩

/-- The ghost state at the launch. -/
def u₀ : UU :=
  (initOf (Pipeline.cells cfgs cellOf_inj) (Pipeline.launchToks cfgs cellOf_inj), initOf ringCells ringToks)

/-- What the launch deals device `c`. -/
def G (c : Dev nD) : sProp 𝕄 :=
  iprop((bigSep Finset.univ fun k : Fin 97 => roundState ER (Rd m) (kcell (c, k)) 0)
    ∗ (bigSep Finset.univ fun k : Fin 97 => iprop(atPos ER (kcell (c, k)) 0 ∅ 0 ∗ reached ER (kcell (c, k)) 0)) ∗ toks c)

/-- What is known of every cell. -/
def records (K : Dev nD × Fin 97 → ℕ) : sProp 𝕄 :=
  iprop((bigSep Finset.univ fun ck : Dev nD × Fin 97 => cellInv ER (Rd m) (K ck) (kcell ck))
    ∗ bigSep Finset.univ fun ck : Dev nD × Fin 97 => reached ER (kcell ck) 0)
instance records_persistent (K : Dev nD × Fin 97 → ℕ) : BI.Persistent (records m K) := by unfold records; infer_instance

/-- What the exchange of the semaphores makes of it. -/
def G' (c : Dev nD) : sProp 𝕄 := iprop(∃ K, records m K ∗ linear c)

omit [FloatOps F] in
theorem toks_eq (c : Dev nD) : (bigSep Finset.univ fun j : Fin 97 ⊕ Fin 3 =>
    (dutyTok ER (tokOf (c, j)).1 (tokOf (c, j)).2.1 (tokOf (c, j)).2.2 : sProp 𝕄)) = toks c := by
  rw [bigSep_univ_sum]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 97 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 97 => iprop(∃ κ : ℕ, cellInv ER (Rd m) κ (kcell (c, k))))
          ∗ (bigSep Finset.univ fun k : Fin 97 => iprop(atPos ER (kcell (c, k)) 0 ∅ 0 ∗ reached ER (kcell (c, k)) 0)) ∗ toks c) := by
  have ha : iprop((bigSep Finset.univ fun k : Fin 97 => semVal (kcell (c, k)) 0) ∗ bigSep Finset.univ fun k : Fin 97 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

theorem ghost_intro (K : Dev nD × Fin 97 → ℕ) (c : Dev nD) : iprop(records m K ∗ linear c) ⊢ G' m c := by
  unfold G'; iintro H; iexists K; iexact H

theorem regroup :
    (bigSep Finset.univ fun c : Dev nD => iprop((bigSep Finset.univ fun k : Fin 97 => iprop(∃ κ : ℕ, cellInv ER (Rd m) κ (kcell (c, k))))
          ∗ (bigSep Finset.univ fun k : Fin 97 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 97 => iprop(∃ κ : ℕ, cellInv ER (Rd m) κ (kcell ck))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun ck : Dev nD × Fin 97 => (reached ER (kcell ck) 0 : sProp 𝕄))]
  iintro ⟨HI, ⟨Hat, #HR⟩, Htok⟩
  ihave HK := (BI.bigSep_exists_pi Finset.univ (fun (ck : Dev nD × Fin 97) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 97 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The call's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hc := creds (F := F) c
  unfold start G' records env
  iintro ⟨-, Hlev, Hcr, -, ⟨%K, ⟨HI, HR⟩, HL⟩⟩
  ihave Hc := hc $$ Hcr
  imodintro
  isplitl
  · isplitl [HI HR Hlev]
    · iexists K
      isplitl [HI]; · iexact HI
      isplitl [HR] <;> iassumption
    isplitl [HL] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hz, HB⟩
  isplitl [HB]; · iexact HB
  isplitl [Hz]; · iexact Hz
  iexact Hr

omit [FloatOps F] in
/-- The windows' own transfers may be waited for, before the call and after it. -/
theorem mayWait_stage (c : Dev nD) (sm : SemLoc sig) (hq : ∀ l ∈ itemLv.drop 0, lvS sm < l) (O : CellTallies nD τ sig Unit) (hO : O = O₀ c ∨ O = 0) :
    (levAts L lv : sProp 𝕄) ⊢ MayWait (c : Thread nD τ) sm () O := by
  rcases hO with rfl | rfl
  · exact mayWait c sm 0 hq
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ### The run -/

/-- What device `c`'s window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 60000 in
/-- Every execution of the whole program on the sixteen devices, from any memory with the counters at zero, ends; then
    every device's two arrays hold what the call's data say, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AllReduce
-- ==== Proof.Final.lean ====
/-
# The arrays after the run

The result array of every device holds the whole result, and the argument's array what it held: for the idealized
program, and for the program itself, whose text is the same.
-/
module

public import proofs.«01_k».proof.Proof.Run
public import proofs.«01_k».proof.Proof.Gen.Kernel

@[expose] public section

set_option maxRecDepth 8000

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The result window's one block, read back, is the sum. -/
theorem finalA_o (c : Dev nD) : (win0_1.blk (0 : Fin 1)).view.read (Elt F) (finalA m ρ c (1 : Fin 2)) = resC m := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- That block is the whole array. -/
theorem finalA_res (c : Dev nD) : finalA m ρ c (1 : Fin 2) = resC m := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_o m ρ c
  rw [hr] at ho
  exact ho

/-- Every execution ends, every device's result array then holds the sum, its argument's array is unchanged, and every
    counter is at zero. -/
theorem run_ideal : θ_run defs (onTc (τ := τ) (main (F := F))) ⟨m, fun _ => 0, ρ⟩ (fun r =>
    (∀ c : Dev nD, r.2.mem ((c : Thread nD τ).loc main_v1) = resC m ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (finalA_res m ρ c), (h.1 c (0 : Fin 2)).trans (finalA_x m ρ c)⟩, h.2⟩)
    (run_main m ρ)

/-- The same without the result. -/
theorem frame_ideal : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_ideal m ρ)

set_option maxRecDepth 100000 in
/-- The program and the idealized one have the same body, -/
theorem defs₀_eq : Cert.Kernel.defs₀ (F := F) = Cert.KernelIdeal.defs₀ := by
  funext pr ℓ a
  cases pr with
  | tc =>
    fin_cases ℓ
    obtain ⟨t, s⟩ := a
    rfl
  | _ => rfl

set_option maxRecDepth 100000 in
/-- and the same calls. -/
theorem defs_eq : Cert.Kernel.defs (F := F) = Cert.KernelIdeal.defs :=
  congrArg (Pipeline.defs Cert.KernelIdeal.pcfgs) defs₀_eq

set_option maxRecDepth 100000 in
/-- So the program itself ends, with its argument unchanged and its counters at zero. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c : Thread Cert.Kernel.nD Cert.Kernel.τ).loc Cert.Kernel.main_arg0)
        = m ((c : Thread Cert.Kernel.nD Cert.Kernel.τ).loc Cert.Kernel.main_arg0)) ∧ r.2.sem = fun _ => 0) := by
  rw [defs_eq]; exact frame_ideal (F := F) m ρ

end Cert.KernelIdeal.AllReduce
-- ==== Proof.Value.lean ====
/-
# The value

Over the extended reals the result is the sum of the sixteen argument blocks, and so is the reference's.
-/
module

public import proofs.«01_k».proof.Proof.Vals
public import proofs.«01_k».proof.Defs
public import proofs.«01_k».proof.Proof.Gen.ReferenceIdeal.Run
public import Idealize.ShloMosaic.Lib.IdealHost
public import Idealize.ShloMosaic.Lib.Pointwise.Reduce

@[expose] public section

set_option maxRecDepth 8000

noncomputable section

namespace Cert.KernelIdeal.AllReduce

open Cert.KernelIdeal.Gen
open Idealize.ShloMosaic
open Idealize.ShloMosaic.TcCoe
open Idealize.ShloMosaic.ValueIdx (hostReduceAdd_apply)

variable (m : (ℓ : Loc nD τ sig) → Buf (Elt Ideal) ℓ)

/-- The devices of a plane, in the order in which their blocks are added. -/
def ordA (d : ℕ) (c : Dev nD) : List (Dev nD) := [backP d (backP d (backP d c)), backP d (backP d c), backP d c, c]
/-- All devices, in the order in which their blocks are added. -/
def ordB (d : ℕ) (c : Dev nD) : List (Dev nD) :=
  ordA d (backZ d (backZ d (backZ d c))) ++ (ordA d (backZ d (backZ d c)) ++ (ordA d (backZ d c) ++ ordA d c))

/-- Every device is in that order once. -/
theorem ordB_perm : ∀ d < 2, ∀ c : Dev nD, (ordB d c).Perm (List.finRange 16) := by decide +kernel

theorem accA_sum (d : ℕ) (c : Dev nD) (r q : ℕ) : accA m d 3 c r q = ((ordA d c).map fun c' => xat m c' r q : List EReal).sum := by
  show ((xat m _ r q + xat m _ r q) + xat m _ r q) + xat m c r q = (_ + (_ + (_ + (_ + (0 : EReal)))) : EReal)
  rw [add_zero, add_assoc, add_assoc]

theorem accB_sum (d : ℕ) (c : Dev nD) (r q : ℕ) : accB m d 3 c r q = ((ordB d c).map fun c' => xat m c' r q : List EReal).sum := by
  unfold ordB
  rw [List.map_append, List.map_append, List.map_append, List.sum_append, List.sum_append, List.sum_append,
    ← accA_sum, ← accA_sum, ← accA_sum, ← accA_sum]
  show (((accA m d 3 _ r q + accA m d 3 _ r q) + accA m d 3 _ r q) + accA m d 3 c r q : EReal) = _
  rw [add_assoc, add_assoc]

/-- An entry of the result is the sum over the devices. -/
theorem resAt_sum (r q : ℕ) : resAt m r q = ∑ c : Fin 16, (xat m c r q : EReal) := by
  unfold resAt
  rw [accB_sum, ((ordB_perm (dirOf r) (Nat.mod_lt _ (by decide)) (owner r)).map _).sum_eq, Fin.sum_univ_def]

/-- The reference's result. -/
def refOut (x : (⟨3, ![16, 1024, 1024]⟩ : Shape).Idx → Ideal .f32) : S1024x1024.Idx → Ideal .f32 :=
  Host.reduceAdd x (constant Cert.ReferenceIdeal.S_ .f32 0x00000000#32)
    Cert.ReferenceIdeal.Gen.facts.reducesTo_S16x1024x1024_S1024x1024_d0 Cert.ReferenceIdeal.Gen.facts.h_S_

theorem refOut_apply (x : (⟨3, ![16, 1024, 1024]⟩ : Shape).Idx → Ideal .f32) (j : S1024x1024.Idx) :
    refOut x j = ∑ k : Fin 16, (x (ix3 k (j 0) (j 1)) : EReal) := by
  unfold refOut
  rw [hostReduceAdd_apply, Ideal.hostReduceAdd_r3_a0]
  show Ideal.ofBits .f32 0x00000000#32 + _ = _
  rw [Ideal.ofBits_zero_f32, zero_add]
  rfl

/-- From one whole argument cut into the devices' blocks, the program's result is the reference's. -/
theorem resC_eq (x : (⟨3, ![16, 1024, 1024]⟩ : Shape).Idx → Ideal .f32)
    (hx : ∀ c : Dev nD, m ((c : Thread nD τ).loc main_arg0) = Layout.block ⟨3, ![1, 1024, 1024]⟩ ⟨3, ![16, 1024, 1024]⟩ 0 16 c x) :
    resC m = refOut x := by
  funext j
  rw [refOut_apply]
  show resAt m (j 0).val (j 1).val = _
  rw [resAt_sum]
  refine Finset.sum_congr rfl fun c _ => ?_
  unfold xat
  rw [hx c, Layout.block_apply]
  have h0 : (j 0).val < 1024 := (j 0).isLt
  have h1 : (j 1).val < 1024 := (j 1).isLt
  congr 1
  funext a
  match a with
  | ⟨0, _⟩ => apply Fin.ext; show c.val * 1 + 0 = c.val; omega
  | ⟨1, _⟩ => apply Fin.ext; show (j 0).val % 1024 = (j 0).val; exact Nat.mod_eq_of_lt h0
  | ⟨2, _⟩ => apply Fin.ext; show (j 1).val % 1024 = (j 1).val; exact Nat.mod_eq_of_lt h1

end Cert.KernelIdeal.AllReduce
-- ==== Proof.lean ====
/-
# The claims

The program (`Kernel`, `KernelIdeal`) ends on the sixteen devices with its argument unchanged and its counters at zero,
and over the extended reals every device's result is the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The program ends, with its argument unchanged and its counters at zero. -/
theorem frame_kernel : Cert.quiescent_Kernel := fun m g _ => Cert.KernelIdeal.AllReduce.run_kernel (F := Bits) m g

/-- So does the idealized one. -/
theorem frame_kernel_ideal : Cert.quiescent_KernelIdeal := fun m g _ => Cert.KernelIdeal.AllReduce.frame_ideal (F := Ideal) m g

/-- So does the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device's result is the reference's. -/
theorem value : Cert.algebraic_KernelIdeal_ReferenceIdeal := fun m g m' g' _ hx =>
  ⟨Cert.KernelIdeal.AllReduce.refOut (m' (((0 : Dev Cert.ReferenceIdeal.nD) : Thread Cert.ReferenceIdeal.nD Cert.ReferenceIdeal.τ).loc Cert.ReferenceIdeal.main_arg0)),
    (θ_run Cert.KernelIdeal.defs _ _).mono
      (fun _ h c => ⟨(h.1 c).1.trans (Cert.KernelIdeal.AllReduce.resC_eq m _ hx), (h.1 c).2⟩)
      (Cert.KernelIdeal.AllReduce.run_ideal (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernel_ideal, frame_reference, trivial, value⟩

end Cert.Proof

end
